-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x6144x10240 : Shape := ⟨3, ![1, 6144, 10240]⟩
abbrev S80x1x6144 : Shape := ⟨3, ![80, 1, 6144]⟩
abbrev S10240x1920 : Shape := ⟨2, ![10240, 1920]⟩
abbrev S80x15 : Shape := ⟨2, ![80, 15]⟩
abbrev S1x6144x1920 : Shape := ⟨3, ![1, 6144, 1920]⟩
abbrev S80x15x128 : Shape := ⟨3, ![80, 15, 128]⟩
abbrev S80x1920 : Shape := ⟨2, ![80, 1920]⟩
abbrev S6144x10240 : Shape := ⟨2, ![6144, 10240]⟩
abbrev S80x6144 : Shape := ⟨2, ![80, 6144]⟩
abbrev S6144x1920 : Shape := ⟨2, ![6144, 1920]⟩
abbrev S256x10240 : Shape := ⟨2, ![256, 10240]⟩
abbrev S80x256 : Shape := ⟨2, ![80, 256]⟩
abbrev S256x1920 : Shape := ⟨2, ![256, 1920]⟩
abbrev S2x512x1920 : Shape := ⟨3, ![2, 512, 1920]⟩
abbrev S2 : Shape := ⟨1, ![2]⟩
abbrev S1 : Shape := ⟨1, ![1]⟩
abbrev S_ : Shape := ⟨0, ![]⟩
abbrev S1x512x1920 : Shape := ⟨3, ![1, 512, 1920]⟩
abbrev S512x1920 : Shape := ⟨2, ![512, 1920]⟩
abbrev S1x128x1920 : Shape := ⟨3, ![1, 128, 1920]⟩
abbrev S128x1920 : Shape := ⟨2, ![128, 1920]⟩
abbrev S1x1920 : Shape := ⟨2, ![1, 1920]⟩
abbrev S256x80 : Shape := ⟨2, ![256, 80]⟩
abbrev S256x128 : Shape := ⟨2, ![256, 128]⟩
abbrev S256x1 : Shape := ⟨2, ![256, 1]⟩

abbrev nBuf : Space → Nat
  | .hbm => 12
  | .vmem => 11
  | .smem => 0
  | _ => 0

abbrev bufTy : (tb : Table) → Fin (tcTables nBuf tb) → BufTy
  | .hbm, ⟨0, _⟩ => ⟨S1x6144x10240, .fp8e4m3⟩
  | .hbm, ⟨1, _⟩ => ⟨S80x1x6144, .f32⟩
  | .hbm, ⟨2, _⟩ => ⟨S10240x1920, .fp8e4m3⟩
  | .hbm, ⟨3, _⟩ => ⟨S80x15, .f32⟩
  | .hbm, ⟨4, _⟩ => ⟨S1x6144x1920, .bf16⟩
  | .hbm, ⟨5, _⟩ => ⟨S80x15x128, .f32⟩
  | .hbm, ⟨6, _⟩ => ⟨S80x1920, .f32⟩
  | .hbm, ⟨7, _⟩ => ⟨S6144x10240, .fp8e4m3⟩
  | .hbm, ⟨8, _⟩ => ⟨S80x6144, .f32⟩
  | .hbm, ⟨9, _⟩ => ⟨S6144x1920, .bf16⟩
  | .hbm, ⟨10, _⟩ => ⟨S6144x1920, .bf16⟩
  | .hbm, ⟨11, _⟩ => ⟨S1x6144x1920, .bf16⟩
  | .local _ .vmem, ⟨0, _⟩ => ⟨S256x10240, .fp8e4m3⟩
  | .local _ .vmem, ⟨1, _⟩ => ⟨S256x10240, .fp8e4m3⟩
  | .local _ .vmem, ⟨2, _⟩ => ⟨S80x256, .f32⟩
  | .local _ .vmem, ⟨3, _⟩ => ⟨S80x256, .f32⟩
  | .local _ .vmem, ⟨4, _⟩ => ⟨S80x1920, .f32⟩
  | .local _ .vmem, ⟨5, _⟩ => ⟨S256x1920, .bf16⟩
  | .local _ .vmem, ⟨6, _⟩ => ⟨S256x1920, .bf16⟩
  | .local _ .vmem, ⟨7, _⟩ => ⟨S256x1920, .bf16⟩
  | .local _ .vmem, ⟨8, _⟩ => ⟨S256x1920, .bf16⟩
  | .local _ .vmem, ⟨9, _⟩ => ⟨S10240x1920, .bf16⟩
  | .local _ .vmem, ⟨10, _⟩ => ⟨S2x512x1920, .fp8e4m3⟩
  | _, _ => ⟨S1x6144x10240, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_95 : BitVec 32 := 0#32
  let c20_i32 : BitVec 32 := 20#32
  let v501 : BitVec 32 := Scalar.addi c0_i32_95 c20_i32
  let c1_i32 : BitVec 32 := 1#32
  ⟨c0_i32_95, v501, c1_i32⟩
def k0_cond2 (k0_t1 : Fin k0_t1_loop.trips) : BitVec 1 :=
  let c0_i32_98 : BitVec 32 := 0#32
  let c0_i32_95 : BitVec 32 := 0#32
  let c1_i32 : BitVec 32 := 1#32
  let arg10 : BitVec 32 := Scf.iv c0_i32_95 c1_i32 k0_t1
  let c1_i32_97 : BitVec 32 := 1#32
  let v502 : BitVec 32 := Scalar.muli arg10 c1_i32_97
  let v503 : BitVec 32 := Scalar.addi c0_i32_98 v502
  let c1_i32_99 : BitVec 32 := 1#32
  let v505 : BitVec 32 := Scalar.addi v503 c1_i32_99
  let c20_i32_100 : BitVec 32 := 20#32
  let v506 : BitVec 1 := Scalar.cmpi .slt v505 c20_i32_100
  let v507 : BitVec 32 := Scalar.extui v506
  let c0_i32_101 : BitVec 32 := 0#32
  let v508 : BitVec 1 := Scalar.cmpi .ne v507 c0_i32_101
  v508

def k0_off1 (k0_t1 : Fin k0_t1_loop.trips) : Fin 1 → Nat :=
  let c1_i32_133 : BitVec 32 := 1#32
  let c0_i32_98 : BitVec 32 := 0#32
  let c0_i32_95 : BitVec 32 := 0#32
  let c1_i32 : BitVec 32 := 1#32
  let arg10 : BitVec 32 := Scf.iv c0_i32_95 c1_i32 k0_t1
  let c1_i32_97 : BitVec 32 := 1#32
  let v502 : BitVec 32 := Scalar.muli arg10 c1_i32_97
  let v503 : BitVec 32 := Scalar.addi c0_i32_98 v502
  let c2_i32 : BitVec 32 := 2#32
  let v504 : BitVec 32 := Scalar.remsi v503 c2_i32
  let v588 : BitVec 32 := Scalar.subi c1_i32_133 v504
  ![v588.toNat]
def k0_off2 (k0_t1 : Fin k0_t1_loop.trips) : Fin 3 → Nat :=
  let c1_i32_133 : BitVec 32 := 1#32
  let c0_i32_98 : BitVec 32 := 0#32
  let c0_i32_95 : BitVec 32 := 0#32
  let c1_i32 : BitVec 32 := 1#32
  let arg10 : BitVec 32 := Scf.iv c0_i32_95 c1_i32 k0_t1
  let c1_i32_97 : BitVec 32 := 1#32
  let v502 : BitVec 32 := Scalar.muli arg10 c1_i32_97
  let v503 : BitVec 32 := Scalar.addi c0_i32_98 v502
  let c2_i32 : BitVec 32 := 2#32
  let v504 : BitVec 32 := Scalar.remsi v503 c2_i32
  let v588 : BitVec 32 := Scalar.subi c1_i32_133 v504
  let c0_i32_135 : BitVec 32 := 0#32
  let c0_i32_136 : BitVec 32 := 0#32
  ![v588.toNat, 0, 0]
def k0_off3 (k0_t1 : Fin k0_t1_loop.trips) : Fin 2 → Nat :=
  let c0_i32_98 : BitVec 32 := 0#32
  let c0_i32_95 : BitVec 32 := 0#32
  let c1_i32 : BitVec 32 := 1#32
  let arg10 : BitVec 32 := Scf.iv c0_i32_95 c1_i32 k0_t1
  let c1_i32_97 : BitVec 32 := 1#32
  let v502 : BitVec 32 := Scalar.muli arg10 c1_i32_97
  let v503 : BitVec 32 := Scalar.addi c0_i32_98 v502
  let c1_i32_132 : BitVec 32 := 1#32
  let v587 : BitVec 32 := Scalar.addi v503 c1_i32_132
  let c512_i32_134 : BitVec 32 := 512#32
  let v589 : BitVec 32 := Scalar.muli v587 c512_i32_134
  let c0_i32_137 : BitVec 32 := 0#32
  ![v589.toNat, 0]
def k0_off4 (k0_t1 : Fin k0_t1_loop.trips) : Fin 1 → Nat :=
  let c0_i32_98 : BitVec 32 := 0#32
  let c0_i32_95 : BitVec 32 := 0#32
  let c1_i32 : BitVec 32 := 1#32
  let arg10 : BitVec 32 := Scf.iv c0_i32_95 c1_i32 k0_t1
  let c1_i32_97 : BitVec 32 := 1#32
  let v502 : BitVec 32 := Scalar.muli arg10 c1_i32_97
  let v503 : BitVec 32 := Scalar.addi c0_i32_98 v502
  let c2_i32 : BitVec 32 := 2#32
  let v504 : BitVec 32 := Scalar.remsi v503 c2_i32
  ![v504.toNat]
def k0_off5 (k0_t1 : Fin k0_t1_loop.trips) : Fin 3 → Nat :=
  let c0_i32_98 : BitVec 32 := 0#32
  let c0_i32_95 : BitVec 32 := 0#32
  let c1_i32 : BitVec 32 := 1#32
  let arg10 : BitVec 32 := Scf.iv c0_i32_95 c1_i32 k0_t1
  let c1_i32_97 : BitVec 32 := 1#32
  let v502 : BitVec 32 := Scalar.muli arg10 c1_i32_97
  let v503 : BitVec 32 := Scalar.addi c0_i32_98 v502
  let c2_i32 : BitVec 32 := 2#32
  let v504 : BitVec 32 := Scalar.remsi v503 c2_i32
  let c0_i32_102 : BitVec 32 := 0#32
  let c0_i32_103 : BitVec 32 := 0#32
  ![v504.toNat, 0, 0]
def k0_off6 (k0_t1 : Fin k0_t1_loop.trips) : Fin 2 → Nat :=
  let c0_i32_98 : BitVec 32 := 0#32
  let c0_i32_95 : BitVec 32 := 0#32
  let c1_i32 : BitVec 32 := 1#32
  let arg10 : BitVec 32 := Scf.iv c0_i32_95 c1_i32 k0_t1
  let c1_i32_97 : BitVec 32 := 1#32
  let v502 : BitVec 32 := Scalar.muli arg10 c1_i32_97
  let v503 : BitVec 32 := Scalar.addi c0_i32_98 v502
  let c512_i32 : BitVec 32 := 512#32
  let v509 : BitVec 32 := Scalar.muli v503 c512_i32
  let c0_i32_104 : BitVec 32 := 0#32
  ![v509.toNat, 0]
def k0_off7 (k0_t1 : Fin k0_t1_loop.trips) : Fin 3 → Nat :=
  let c0_i32_98 : BitVec 32 := 0#32
  let c0_i32_95 : BitVec 32 := 0#32
  let c1_i32 : BitVec 32 := 1#32
  let arg10 : BitVec 32 := Scf.iv c0_i32_95 c1_i32 k0_t1
  let c1_i32_97 : BitVec 32 := 1#32
  let v502 : BitVec 32 := Scalar.muli arg10 c1_i32_97
  let v503 : BitVec 32 := Scalar.addi c0_i32_98 v502
  let c2_i32 : BitVec 32 := 2#32
  let v504 : BitVec 32 := Scalar.remsi v503 c2_i32
  let v515 : Index := Scalar.indexCast v504
  let c0_105 : Index := 0#32
  let c0_106 : Index := 0#32
  ![v515.toNat, 0, 0]
def k0_off8 (k0_t1 : Fin k0_t1_loop.trips) (c0_i32_107 : BitVec 32) : Fin 2 → Nat :=
  let c0_i32_98 : BitVec 32 := 0#32
  let c0_i32_95 : BitVec 32 := 0#32
  let c1_i32 : BitVec 32 := 1#32
  let arg10 : BitVec 32 := Scf.iv c0_i32_95 c1_i32 k0_t1
  let c1_i32_97 : BitVec 32 := 1#32
  let v502 : BitVec 32 := Scalar.muli arg10 c1_i32_97
  let v503 : BitVec 32 := Scalar.addi c0_i32_98 v502
  let c4_i32 : BitVec 32 := 4#32
  let v519 : BitVec 32 := Scalar.muli v503 c4_i32
  let v520 : BitVec 32 := Scalar.addi v519 c0_i32_107
  let v521 : Index := Scalar.indexCast v520
  let c0_108 : Index := 0#32
  ![v521.toNat, 0]
def k0_off9 (k0_t1 : Fin k0_t1_loop.trips) (c0_i32_110 : BitVec 32) : Fin 2 → Nat :=
  let c0_i32_98 : BitVec 32 := 0#32
  let c0_i32_95 : BitVec 32 := 0#32
  let c1_i32 : BitVec 32 := 1#32
  let arg10 : BitVec 32 := Scf.iv c0_i32_95 c1_i32 k0_t1
  let c1_i32_97 : BitVec 32 := 1#32
  let v502 : BitVec 32 := Scalar.muli arg10 c1_i32_97
  let v503 : BitVec 32 := Scalar.addi c0_i32_98 v502
  let c512_i32_109 : BitVec 32 := 512#32
  let v527 : BitVec 32 := Scalar.muli v503 c512_i32_109
  let v528 : BitVec 32 := Scalar.addi v527 c0_i32_110
  let v529 : Index := Scalar.indexCast v528
  let c0_111 : Index := 0#32
  ![v529.toNat, 0]
def k0_off10 (k0_t1 : Fin k0_t1_loop.trips) : Fin 3 → Nat :=
  let c0_i32_98 : BitVec 32 := 0#32
  let c0_i32_95 : BitVec 32 := 0#32
  let c1_i32 : BitVec 32 := 1#32
  let arg10 : BitVec 32 := Scf.iv c0_i32_95 c1_i32 k0_t1
  let c1_i32_97 : BitVec 32 := 1#32
  let v502 : BitVec 32 := Scalar.muli arg10 c1_i32_97
  let v503 : BitVec 32 := Scalar.addi c0_i32_98 v502
  let c2_i32 : BitVec 32 := 2#32
  let v504 : BitVec 32 := Scalar.remsi v503 c2_i32
  let v533 : Index := Scalar.indexCast v504
  let c128_112 : Index := 128#32
  let c0_113 : Index := 0#32
  ![v533.toNat, 128, 0]
def k0_off11 (k0_t1 : Fin k0_t1_loop.trips) : Fin 3 → Nat :=
  let c0_i32_98 : BitVec 32 := 0#32
  let c0_i32_95 : BitVec 32 := 0#32
  let c1_i32 : BitVec 32 := 1#32
  let arg10 : BitVec 32 := Scf.iv c0_i32_95 c1_i32 k0_t1
  let c1_i32_97 : BitVec 32 := 1#32
  let v502 : BitVec 32 := Scalar.muli arg10 c1_i32_97
  let v503 : BitVec 32 := Scalar.addi c0_i32_98 v502
  let c2_i32 : BitVec 32 := 2#32
  let v504 : BitVec 32 := Scalar.remsi v503 c2_i32
  let v551 : Index := Scalar.indexCast v504
  let c256_119 : Index := 256#32
  let c0_120 : Index := 0#32
  ![v551.toNat, 256, 0]
def k0_off12 (k0_t1 : Fin k0_t1_loop.trips) : Fin 3 → Nat :=
  let c0_i32_98 : BitVec 32 := 0#32
  let c0_i32_95 : BitVec 32 := 0#32
  let c1_i32 : BitVec 32 := 1#32
  let arg10 : BitVec 32 := Scf.iv c0_i32_95 c1_i32 k0_t1
  let c1_i32_97 : BitVec 32 := 1#32
  let v502 : BitVec 32 := Scalar.muli arg10 c1_i32_97
  let v503 : BitVec 32 := Scalar.addi c0_i32_98 v502
  let c2_i32 : BitVec 32 := 2#32
  let v504 : BitVec 32 := Scalar.remsi v503 c2_i32
  let v569 : Index := Scalar.indexCast v504
  let c384_126 : Index := 384#32
  let c0_127 : Index := 0#32
  ![v569.toNat, 384, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x10240 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S80x1920 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1920 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1920 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1x6144x10240 : Shape := ⟨3, ![1, 6144, 10240]⟩
abbrev S80x1x6144 : Shape := ⟨3, ![80, 1, 6144]⟩
abbrev S10240x1920 : Shape := ⟨2, ![10240, 1920]⟩
abbrev S80x15 : Shape := ⟨2, ![80, 15]⟩
abbrev S1x6144x1920 : Shape := ⟨3, ![1, 6144, 1920]⟩
abbrev S1x6144x80 : Shape := ⟨3, ![1, 6144, 80]⟩
abbrev S1x6144x80x1 : Shape := ⟨4, ![1, 6144, 80, 1]⟩
abbrev S1x6144x80x128 : Shape := ⟨4, ![1, 6144, 80, 128]⟩
abbrev S80x1x15x1 : Shape := ⟨4, ![80, 1, 15, 1]⟩
abbrev S80x128x15x128 : Shape := ⟨4, ![80, 128, 15, 128]⟩

abbrev nBuf : Space → Nat
  | .hbm => 6
  | .vmem => 6
  | .smem => 0
  | _ => 0

abbrev bufTy : (tb : Table) → Fin (tcTables nBuf tb) → BufTy
  | .hbm, ⟨0, _⟩ => ⟨S1x6144x10240, .fp8e4m3⟩
  | .hbm, ⟨1, _⟩ => ⟨S80x1x6144, .f32⟩
  | .hbm, ⟨2, _⟩ => ⟨S10240x1920, .fp8e4m3⟩
  | .hbm, ⟨3, _⟩ => ⟨S80x15, .f32⟩
  | .hbm, ⟨4, _⟩ => ⟨S1x6144x1920, .bf16⟩
  | .hbm, ⟨5, _⟩ => ⟨S1x6144x1920, .bf16⟩
  | .local _ .vmem, ⟨0, _⟩ => ⟨S1x6144x10240, .fp8e4m3⟩
  | .local _ .vmem, ⟨1, _⟩ => ⟨S80x1x6144, .f32⟩
  | .local _ .vmem, ⟨2, _⟩ => ⟨S10240x1920, .fp8e4m3⟩
  | .local _ .vmem, ⟨3, _⟩ => ⟨S80x15, .f32⟩
  | .local _ .vmem, ⟨4, _⟩ => ⟨S1x6144x1920, .bf16⟩
  | .local _ .vmem, ⟨5, _⟩ => ⟨S1x6144x1920, .bf16⟩
  | _, _ => ⟨S1x6144x10240, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x6144x10240 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S80x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10240x1920 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S80x15 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144x1920 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6144x1920 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelIdeal.Names.lean ====
/-
  The weight stream of the body, named. The body's own copies move `w_codes` (10240 × 1920, left in HBM) in twenty blocks
  of 512 rows through a two-slot scratch ring, one DMA semaphore per slot. Here: the names of a block (`grp`), a slot
  (`rslot`) and a slot's semaphore (`csm`); the closed forms of the offsets a trip `k` of the loop computes; and the
  equations by which the executor rewrites the printed slices to those names.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic

/-- `w_codes`, left in HBM; -/
abbrev wM : Memref sig .tc .hbm S10240x1920 .fp8e4m3 := Memref.whole main_arg2
/-- the dequantised weight, scratch; -/
abbrev wdM : Memref sig .tc .vmem S10240x1920 .bf16 := Memref.whole cc0_scratch0
/-- the two-slot ring, scratch. -/
abbrev bufM : Memref sig .tc .vmem S2x512x1920 .fp8e4m3 := Memref.whole cc0_scratch1

abbrev grpOff (b : Fin 20) : Fin 2 → Nat := ![512 * b.val, 0]
theorem grpOff_inb (b : Fin 20) : ∀ a, grpOff b a + S512x1920.size a ≤ S10240x1920.size a := by
  have := b.isLt; intro a; fin_cases a
  · show 512 * b.val + 512 ≤ 10240; omega
  · show 0 + 1920 ≤ 1920; omega
abbrev slotOff (s : Fin 2) : Fin 3 → Nat := ![s.val, 0, 0]
theorem slotOff_inb (s : Fin 2) : ∀ a, slotOff s a + S1x512x1920.size a ≤ S2x512x1920.size a := by
  have := s.isLt; intro a; fin_cases a
  · show s.val + 1 ≤ 2; omega
  · show 0 + 512 ≤ 512; omega
  · show 0 + 1920 ≤ 1920; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Block `b` of `w_codes`: rows `512 b` to `512 b + 511`, as the body slices it. -/
def grp (b : Fin 20) : Memref sig .tc .hbm S512x1920 .fp8e4m3 :=
  wM.slice (Rect.unit (s := S10240x1920) (grpOff b) S512x1920.size (grpOff_inb b)) (fun _ => rfl)
/-- Slot `s` of the ring, as the body slices and squeezes it. -/
def rslot (s : Fin 2) : Memref sig .tc .vmem S512x1920 .fp8e4m3 :=
  (bufM.slice (Rect.unit (s := S2x512x1920) (slotOff s) S1x512x1920.size (slotOff_inb s)) (fun _ => rfl)).squeeze S512x1920 squeezes_S1x512x1920_S512x1920
/-- Slot `s`'s DMA semaphore. -/
def csm (s : Fin 2) : DmaSems sig S_ := (cc0_scratch2.slice (Rect.unit (s := S2) (semOff s) S1.size (semOff_inb s))).squeeze S_ squeezes_S1_S_

instance (s : Fin 2) : ClosedOff (slotOff s) := ⟨slotOff s, rfl⟩
instance (b : Fin 20) : ClosedOff (grpOff b) := ⟨grpOff b, rfl⟩

/-! ## The offsets of trip `k` in closed form -/

theorem trips_eq : k0_t1_loop.trips = 20 := by decide
theorem lt20 (k : Fin k0_t1_loop.trips) : k.val < 20 := Nat.lt_of_lt_of_eq k.isLt trips_eq

theorem cond2_iff : ∀ k : Fin k0_t1_loop.trips, k0_cond2 k = 1#1 ↔ k.val + 1 < 20 := by decide +kernel
theorem off1_eq : ∀ k : Fin k0_t1_loop.trips, k0_off1 k = semOff (Ring.sl 2 (k.val + 1)) := by decide +kernel
theorem off2_eq : ∀ k : Fin k0_t1_loop.trips, k0_off2 k = slotOff (Ring.sl 2 (k.val + 1)) := by decide +kernel
theorem off3_eq : ∀ k : Fin k0_t1_loop.trips, k.val + 1 < 20 → k0_off3 k = grpOff (Ring.bk 20 (k.val + 1)) := by decide +kernel
theorem off4_eq : ∀ k : Fin k0_t1_loop.trips, k0_off4 k = semOff (Ring.sl 2 k.val) := by decide +kernel
theorem off5_eq : ∀ k : Fin k0_t1_loop.trips, k0_off5 k = slotOff (Ring.sl 2 k.val) := by decide +kernel
theorem off6_eq : ∀ k : Fin k0_t1_loop.trips, k0_off6 k = grpOff (Ring.bk 20 k.val) := by decide +kernel
theorem off7_eq : ∀ k : Fin k0_t1_loop.trips, k0_off7 k = ![(Ring.sl 2 k.val).val, 0, 0] := by decide +kernel
theorem off10_eq : ∀ k : Fin k0_t1_loop.trips, k0_off10 k = ![(Ring.sl 2 k.val).val, 128, 0] := by decide +kernel
theorem off11_eq : ∀ k : Fin k0_t1_loop.trips, k0_off11 k = ![(Ring.sl 2 k.val).val, 256, 0] := by decide +kernel
theorem off12_eq : ∀ k : Fin k0_t1_loop.trips, k0_off12 k = ![(Ring.sl 2 k.val).val, 384, 0] := by decide +kernel
/-- The scale row of quarter `r` of trip `k`: row `4 k + r`. -/
theorem off8_eq : ∀ (k : Fin k0_t1_loop.trips) (r : Fin 4), k0_off8 k (BitVec.ofNat 32 r.val) = ![4 * k.val + r.val, 0] := by decide +kernel
/-- The weight rows of quarter `r` of trip `k`: from row `512 k + 128 r`. -/
theorem off9_eq : ∀ (k : Fin k0_t1_loop.trips) (r : Fin 4), k0_off9 k (BitVec.ofNat 32 (128 * r.val)) = ![512 * k.val + 128 * r.val, 0] := by decide +kernel

instance (k : Fin k0_t1_loop.trips) : ClosedOff (k0_off5 k) := ⟨slotOff (Ring.sl 2 k.val), off5_eq k⟩
instance (k : Fin k0_t1_loop.trips) : ClosedOff (k0_off7 k) := ⟨_, off7_eq k⟩
instance (k : Fin k0_t1_loop.trips) : ClosedOff (k0_off10 k) := ⟨_, off10_eq k⟩
instance (k : Fin k0_t1_loop.trips) : ClosedOff (k0_off11 k) := ⟨_, off11_eq k⟩
instance (k : Fin k0_t1_loop.trips) : ClosedOff (k0_off12 k) := ⟨_, off12_eq k⟩
instance (k : Fin k0_t1_loop.trips) : ClosedOff (k0_off8 k 0#32) := ⟨![4 * k.val + 0, 0], off8_eq k 0⟩
instance (k : Fin k0_t1_loop.trips) : ClosedOff (k0_off8 k 1#32) := ⟨![4 * k.val + 1, 0], off8_eq k 1⟩
instance (k : Fin k0_t1_loop.trips) : ClosedOff (k0_off8 k 2#32) := ⟨![4 * k.val + 2, 0], off8_eq k 2⟩
instance (k : Fin k0_t1_loop.trips) : ClosedOff (k0_off8 k 3#32) := ⟨![4 * k.val + 3, 0], off8_eq k 3⟩
instance (k : Fin k0_t1_loop.trips) : ClosedOff (k0_off9 k 0#32) := ⟨![512 * k.val + 0, 0], off9_eq k 0⟩
instance (k : Fin k0_t1_loop.trips) : ClosedOff (k0_off9 k 128#32) := ⟨![512 * k.val + 128, 0], off9_eq k 1⟩
instance (k : Fin k0_t1_loop.trips) : ClosedOff (k0_off9 k 256#32) := ⟨![512 * k.val + 256, 0], off9_eq k 2⟩
instance (k : Fin k0_t1_loop.trips) : ClosedOff (k0_off9 k 384#32) := ⟨![512 * k.val + 384, 0], off9_eq k 3⟩

/-! ## The printed slices are those names -/

theorem csm_congr {off : Fin 1 → Nat} {s : Fin 2} (e : off = semOff s) (hh) :
    (cc0_scratch2.slice (Rect.unit (s := S2) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 2} (e : off = slotOff s) (hh hs) :
    (bufM.slice (Rect.unit (s := S2x512x1920) off S1x512x1920.size hh) hs).squeeze S512x1920 squeezes_S1x512x1920_S512x1920 = rslot s :=
  congrArg (fun M : Memref sig .tc .vmem S1x512x1920 .fp8e4m3 => M.squeeze S512x1920 squeezes_S1x512x1920_S512x1920) (Memref.slice_unit_congr _ e _ _ _ _)
theorem grp_congr {off : Fin 2 → Nat} {b : Fin 20} (e : off = grpOff b) (hh hs) :
    wM.slice (Rect.unit (s := S10240x1920) off S512x1920.size hh) hs = grp b :=
  Memref.slice_unit_congr _ e _ _ _ (fun _ => rfl)

/-- Before the loop: slot, semaphore and block 0. -/
@[sl_canon] theorem semL0 (hh) : (cc0_scratch2.slice (Rect.unit (s := S2) ![0] S1.size hh)).squeeze S_ squeezes_S1_S_ = csm 0 := csm_congr (by decide) _
@[sl_canon] theorem slotL0 (hh hs) : (bufM.slice (Rect.unit (s := S2x512x1920) ![0, 0, 0] S1x512x1920.size hh) hs).squeeze S512x1920 squeezes_S1x512x1920_S512x1920 = rslot 0 := rslot_congr (by decide) _ _
@[sl_canon] theorem grpL0 (hh hs) : wM.slice (Rect.unit (s := S10240x1920) ![0, 0] S512x1920.size hh) hs = grp 0 := grp_congr (by decide) _ _

/-- Trip `k` waits block `k` in slot `k % 2` -/
@[sl_canon] theorem semW (k : Fin k0_t1_loop.trips) (hh) :
    (cc0_scratch2.slice (Rect.unit (s := S2) (k0_off4 k) S1.size hh)).squeeze S_ squeezes_S1_S_ = csm (Ring.sl 2 k.val) := csm_congr (off4_eq k) _
@[sl_canon] theorem slotW (k : Fin k0_t1_loop.trips) (hh hs) :
    (bufM.slice (Rect.unit (s := S2x512x1920) (k0_off5 k) S1x512x1920.size hh) hs).squeeze S512x1920 squeezes_S1x512x1920_S512x1920 = rslot (Ring.sl 2 k.val) := rslot_congr (off5_eq k) _ _
@[sl_canon] theorem grpW (k : Fin k0_t1_loop.trips) (hh hs) :
    wM.slice (Rect.unit (s := S10240x1920) (k0_off6 k) S512x1920.size hh) hs = grp (Ring.bk 20 k.val) := grp_congr (off6_eq k) _ _
/-- and issues block `k + 1` into the other. -/
@[sl_canon] theorem semI (k : Fin k0_t1_loop.trips) (hh) :
    (cc0_scratch2.slice (Rect.unit (s := S2) (k0_off1 k) S1.size hh)).squeeze S_ squeezes_S1_S_ = csm (Ring.sl 2 (k.val + 1)) := csm_congr (off1_eq k) _
@[sl_canon] theorem slotI (k : Fin k0_t1_loop.trips) (hh hs) :
    (bufM.slice (Rect.unit (s := S2x512x1920) (k0_off2 k) S1x512x1920.size hh) hs).squeeze S512x1920 squeezes_S1x512x1920_S512x1920 = rslot (Ring.sl 2 (k.val + 1)) := rslot_congr (off2_eq k) _ _
@[sl_canon] theorem grpI (k : Fin k0_t1_loop.trips) (hk : k.val + 1 < 20) (hh hs) :
    wM.slice (Rect.unit (s := S10240x1920) (k0_off3 k) S512x1920.size hh) hs = grp (Ring.bk 20 (k.val + 1)) := grp_congr (off3_eq k hk) _ _

end Cert.KernelIdeal.Hand

end
-- ==== Proof.KernelIdeal.Trip.lean ====
/-
  One trip of the weight loop. Trip `k` issues block `k + 1` of `w_codes` into the free slot (unless `k` is the last),
  waits block `k` in the other, and stores its four quarters of 128 rows, each times its own row of scales, into rows
  `512 k …` of the dequantised weight.
-/
module

public import proofs.«01_k».proof.Proof.KernelIdeal.Names

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's, beside the counters the body's own copies ride on. -/
local notation "𝕄" => MT nD τ sig Unit (Elt F) ℕ (Pipeline.UD sig nD τ) ℕ
abbrev 𝒱₀ : Variants := Variants.none

/-! ## The pieces: a block at home, a slot held, a slot's semaphore, a slot in flight -/

section Pieces
variable (c : Dev nD) (XA : Buf (Elt F) (wM.view.loc (c : Thread nD τ)))

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
/-- Block `b` at home: held on its elements at the array's contents. -/
abbrev homeP (b : Fin 20) : sProp 𝕄 := (grp b).view.loc (c : Thread nD τ) ↦[(grp b).view.set]{fullShare} XA
/-- Block `b`'s words as a slot's payload. -/
abbrev payload (b : Fin 20) : S512x1920.Idx → Elt F .fp8e4m3 := ReadAs.same.apply ((grp b).view.read (Elt F) XA)
/-- What block `b`'s transfer leaves in slot `s` over prior contents `f`: the block, written whole. -/
abbrev landed (s : Fin 2) (b : Fin 20) (f : Buf (Elt F) ((rslot s).view.loc (c : Thread nD τ))) : Buf (Elt F) ((rslot s).view.loc (c : Thread nD τ)) :=
  (rslot s).view.writes (Elt F) f [⟨Rect.whole S512x1920, payload c XA b⟩]
/-- What a block's transfer moves, in its semaphore's units. -/
abbrev NN : ℕ := 30720
/-- Slot `s` in flight with block `b`, issued over `f`. -/
abbrev flightP (s : Fin 2) (b : Fin 20) (f : Buf (Elt F) ((rslot s).view.loc (c : Thread nD τ))) : sProp 𝕄 :=
  Transfers.Flight countersEmb (c : Thread nD τ) (SemLoc.dma (csm s).sem) () NN iprop(slotP c s (landed c XA s b f) ∗ homeP c XA b)

/-- Before trip `k`: block `k + 1` (about to go out) beside the other blocks at home; -/
theorem homes_here (k : ℕ) (hk : k + 1 < 20) :
    bigSep (Ring.homeSet 1 k) (homeP c XA) = iprop(homeP c XA (Ring.bk 20 (k + 1)) ∗ bigSep ((Ring.homeSet 1 k).erase (Ring.bk 20 (k + 1))) (homeP c XA)) := by
  conv_lhs => rw [Ring.homeSet_out 1 k hk, bigSep_insert (Ring.bkL_not_mem_erase 1 k)]
  rfl
/-- before trip `k + 1`: block `k` (just back) beside them. -/
theorem homes_next (k : ℕ) (hk : k + 1 < 20) :
    bigSep (Ring.homeSet 1 (k + 1)) (homeP c XA) = iprop(homeP c XA (Ring.bk 20 k) ∗ bigSep ((Ring.homeSet 1 k).erase (Ring.bk 20 (k + 1))) (homeP c XA)) := by
  conv_lhs => rw [Ring.homeSet_succ 1 k hk, bigSep_insert (Ring.bk_not_mem_erase 1 k (by omega) (by decide))]
  rfl
/-- After the last trip: its block beside the others, already at home. -/
theorem homes_tail (k : ℕ) (h : 20 ≤ k + 1) (hk : k < 20) :
    bigSep (Ring.homeSet 1 (k + 1)) (homeP c XA) = iprop(homeP c XA (Ring.bk 20 k) ∗ bigSep (Ring.homeSet 1 k) (homeP c XA)) := by
  conv_lhs => rw [Ring.homeSet_succ_tail 1 k h hk, bigSep_insert (Ring.bk_not_mem_homeSet 1 k hk (by decide))]
  rfl

theorem sl2_add2 (k : ℕ) : Ring.sl 2 (k + 1 + 1) = Ring.sl 2 k := by rw [show k + 1 + 1 = k + 2 from rfl, Ring.sl_add]

end Pieces

/-! ## One trip -/

section Trip

variable (c : Dev nD) (XA : Buf (Elt F) (wM.view.loc (c : Thread nD τ))) (i : grid0.Coords)
  (arg1 : Memref sig .tc .vmem S256x10240 .fp8e4m3) (harg1 : arg1.IsWhole)
  (arg2 : Memref sig .tc .vmem S80x256 .f32) (harg2 : arg2.IsWhole)
  (arg4 : Memref sig .tc .vmem S80x1920 .f32) (harg4 : arg4.IsWhole)
  (arg5 : Memref sig .tc .vmem S256x1920 .bf16) (harg5 : arg5.IsWhole)
  (arg6 : Memref sig .tc .vmem S256x1920 .bf16) (harg6 : arg6.IsWhole)
  (h1 : k0_cond1 i = 1#1)
  (g4 : Buf (Elt F) (arg4.view.loc (c : Thread nD τ)))

abbrev wdP (fo : Buf (Elt F) (wdM.view.loc (c : Thread nD τ))) : sProp 𝕄 := wdM.view.loc (c : Thread nD τ) ↦[wdM.view.set]{fullShare} fo
abbrev wsP : sProp 𝕄 := arg4.view.loc (c : Thread nD τ) ↦[arg4.view.set]{fullShare} g4

/-- Slot `k % 2` before trip `k`: block `k` on its way into it; after the last, the slot and its semaphore free. -/
def slotAt (k : ℕ) : sProp 𝕄 :=
  if k < 20 then iprop(∃ f, flightP c XA (Ring.sl 2 k) (Ring.bk 20 k) f)
  else iprop((∃ f, slotP c (Ring.sl 2 k) f) ∗ cellP c (Ring.sl 2 k))
theorem slotAt_lt {k : ℕ} (h : k < 20) : slotAt c XA k = iprop(∃ f, flightP c XA (Ring.sl 2 k) (Ring.bk 20 k) f) := if_pos h
theorem slotAt_ge {k : ℕ} (h : 20 ≤ k) : slotAt c XA k = iprop((∃ f, slotP c (Ring.sl 2 k) f) ∗ cellP c (Ring.sl 2 k)) := if_neg (by omega)

/-- What is held before trip `k`, the dequantised weight at `fo`. -/
def resAt (k : ℕ) (fo : Buf (Elt F) (wdM.view.loc (c : Thread nD τ))) : sProp 𝕄 :=
  iprop(wdP c fo ∗ wsP c arg4 g4 ∗ (∃ W, owes (c : Thread nD τ) 0 W)
    ∗ bigSep (Ring.homeSet 1 k) (homeP c XA)
    ∗ (∃ f, slotP c (Ring.sl 2 (k + 1)) f) ∗ cellP c (Ring.sl 2 (k + 1))
    ∗ slotAt c XA k)

abbrev tripG (k : Fin k0_t1_loop.trips) : Prog (TpuEff nD τ sig (Elt F) Λ₀ .tc) Unit :=
  k0_t1_body (F := F) i arg1 harg1 arg2 harg2 wM (Memref.isWhole_whole _) arg4 harg4 arg5 harg5 arg6 harg6 wdM (Memref.isWhole_whole _) bufM (Memref.isWhole_whole _) cc0_scratch2 h1 k ()

/-- Slot `k % 2` as block `k`'s transfer delivers it. -/
abbrev slotGot (k : Fin k0_t1_loop.trips) : Buf (Elt F) (bufM.view.loc (c : Thread nD τ)) :=
  landed c XA (Ring.sl 2 k.val) (Ring.bk 20 k.val) (rslot (Ring.sl 2 k.val)).view.junk
/-- 128 rows of that slot, loaded through the whole ring; -/
abbrev qLoad (k : Fin k0_t1_loop.trips) (off : Fin 3 → Nat) (h : ∀ a, off a + S1x128x1920.size a ≤ S2x512x1920.size a) : Vec F S1x128x1920 .fp8e4m3 :=
  View.readAt (Elt F) bufM.view (Rect.unit (s := S2x512x1920) off S1x128x1920.size h).toLoadRect (slotGot c XA k)
/-- the row of scales that goes with them. -/
abbrev sLoad (k : Fin k0_t1_loop.trips) (v : BitVec 32) (h : ∀ a, k0_off8 k v a + S1x1920.size a ≤ S80x1920.size a) : Vec F S1x1920 .f32 :=
  View.readAt (Elt F) arg4.view (Rect.unit (s := S80x1920) (k0_off8 k v) S1x1920.size h).toLoadRect g4

/-- What trip `k` stores into the dequantised weight: its four quarters, the last one first. -/
def tripL (k : Fin k0_t1_loop.trips) : List (View.Piece (Elt F) S10240x1920 .bf16) :=
  [⟨Rect.unit (s := S10240x1920) (k0_off9 k 384#32) S128x1920.size (k0_off9_inb i k h1 3),
      k0_pay7 (k0_pay6 (qLoad c XA k (k0_off12 k) (k0_off12_inb i k h1))) (sLoad c arg4 g4 k 3#32 (k0_off8_inb i k h1 3))⟩,
   ⟨Rect.unit (s := S10240x1920) (k0_off9 k 256#32) S128x1920.size (k0_off9_inb i k h1 2),
      k0_pay5 (qLoad c XA k (k0_off11 k) (k0_off11_inb i k h1)) (sLoad c arg4 g4 k 2#32 (k0_off8_inb i k h1 2))⟩,
   ⟨Rect.unit (s := S10240x1920) (k0_off9 k 128#32) S128x1920.size (k0_off9_inb i k h1 1),
      k0_pay4 (k0_pay3 (qLoad c XA k (k0_off10 k) (k0_off10_inb i k h1))) (sLoad c arg4 g4 k 1#32 (k0_off8_inb i k h1 1))⟩,
   ⟨Rect.unit (s := S10240x1920) (k0_off9 k 0#32) S128x1920.size (k0_off9_inb i k h1 0),
      k0_pay2 (qLoad c XA k (k0_off7 k) (k0_off7_inb i k h1)) (sLoad c arg4 g4 k 0#32 (k0_off8_inb i k h1 0))⟩]

/-- A trip before the last, at a symbolic `k`. -/
theorem trip_mid (k : Fin k0_t1_loop.trips) (hk1 : k.val + 1 < 20) (fo : Buf (Elt F) (wdM.view.loc (c : Thread nD τ))) :
    resAt c XA arg4 g4 k fo ⊢ wp frame (wpE (defs₀ (F := F)) 𝒱₀ (c : Thread nD τ) none) Set.univ (tripG i arg1 harg1 arg2 harg2 arg4 harg4 arg5 harg5 arg6 harg6 h1 k)
        (fun _ => resAt c XA arg4 g4 (k.val + 1) (wdM.view.writes (Elt F) fo (tripL c XA i arg4 h1 g4 k))) := by
  have hk6 : k.val < 20 := by omega
  have h2 : k0_cond2 k = 1#1 := (cond2_iff k).2 hk1
  unfold resAt
  rw [homes_here c XA k.val hk1, homes_next c XA k.val hk1, sl2_add2, slotAt_lt c XA hk6, slotAt_lt c XA hk1]
  iintro ⟨HO, HS, ⟨%W, HW⟩, ⟨Hg, Hrest⟩, ⟨%f1, Hs1⟩, Hc1, ⟨%f0, HF0⟩⟩
  dsimp only [tripG]
  sl_unfold [k0_t1_body]
  sl_exec (disch := sl_exact h2)
  sl_step
  isplitl [HO]; · iexact HO
  isplitl [HS]; · iexact HS
  isplitl [HW]; · iexists _; iexact HW
  isplitl [HF0_src Hrest]
  · isplitl [HF0_src]; · iexact HF0_src
    iexact Hrest
  isplitl [HF0_dst]; · iexists _; iexact HF0_dst
  isplitl [HF0]; · iexact HF0
  iexists f1; iexact Hc1

/-- The last trip: nothing is issued, and every block is home after it. -/
theorem trip_last (k : Fin k0_t1_loop.trips) (hk1 : ¬ k.val + 1 < 20) (fo : Buf (Elt F) (wdM.view.loc (c : Thread nD τ))) :
    resAt c XA arg4 g4 k fo ⊢ wp frame (wpE (defs₀ (F := F)) 𝒱₀ (c : Thread nD τ) none) Set.univ (tripG i arg1 harg1 arg2 harg2 arg4 harg4 arg5 harg5 arg6 harg6 h1 k)
        (fun _ => resAt c XA arg4 g4 (k.val + 1) (wdM.view.writes (Elt F) fo (tripL c XA i arg4 h1 g4 k))) := by
  have hk6 : k.val < 20 := lt20 k
  have h2 : ¬ k0_cond2 k = 1#1 := fun h => hk1 ((cond2_iff k).1 h)
  unfold resAt
  rw [homes_tail c XA k.val (by omega) hk6, sl2_add2, slotAt_lt c XA hk6, slotAt_ge c XA (by omega)]
  iintro ⟨HO, HS, ⟨%W, HW⟩, Hrest, ⟨%f1, Hs1⟩, Hc1, ⟨%f0, HF0⟩⟩
  dsimp only [tripG]
  sl_unfold [k0_t1_body]
  sl_exec (disch := sl_exact h2)
  sl_step
  isplitl [HO]; · iexact HO
  isplitl [HS]; · iexact HS
  isplitl [HW]; · iexists _; iexact HW
  isplitl [HF0_src Hrest]
  · isplitl [HF0_src]; · iexact HF0_src
    iexact Hrest
  isplitl [HF0_dst]; · iexists _; iexact HF0_dst
  isplitl [HF0]; · iexact HF0
  isplitl [Hs1]; · iexists _; iexact Hs1
  iexact Hc1

/-- Either way. -/
theorem trip (k : Fin k0_t1_loop.trips) (fo : Buf (Elt F) (wdM.view.loc (c : Thread nD τ))) :
    resAt c XA arg4 g4 k fo ⊢ wp frame (wpE (defs₀ (F := F)) 𝒱₀ (c : Thread nD τ) none) Set.univ (tripG i arg1 harg1 arg2 harg2 arg4 harg4 arg5 harg5 arg6 harg6 h1 k)
        (fun _ => resAt c XA arg4 g4 (k.val + 1) (wdM.view.writes (Elt F) fo (tripL c XA i arg4 h1 g4 k))) := by
  by_cases hk1 : k.val + 1 < 20
  · exact trip_mid c XA i arg1 harg1 arg2 harg2 arg4 harg4 arg5 harg5 arg6 harg6 h1 g4 k hk1 fo
  · exact trip_last c XA i arg1 harg1 arg2 harg2 arg4 harg4 arg5 harg5 arg6 harg6 h1 g4 k hk1 fo

/-- The dequantised weight before trip `k`, from its contents `f0` at the loop's entry. -/
def wdAcc (f0 : Buf (Elt F) (wdM.view.loc (c : Thread nD τ))) : ℕ → Buf (Elt F) (wdM.view.loc (c : Thread nD τ))
  | 0 => f0
  | k + 1 => if h : k < k0_t1_loop.trips then wdM.view.writes (Elt F) (wdAcc f0 k) (tripL c XA i arg4 h1 g4 ⟨k, h⟩) else wdAcc f0 k

set_option warn.classDefReducibility false in
/-- The loop's invariant: `resAt` at trip `k`, the dequantised weight as the trips before left it. -/
@[sl_loop] def loopInv1 (f0 : Buf (Elt F) (wdM.view.loc (c : Thread nD τ))) :
    LoopInvTy_k0_t1 (F := F) Unit ℕ (Pipeline.UD sig nD τ) ℕ 𝒱₀ c none Set.univ i arg1 harg1 arg2 harg2 wM (Memref.isWhole_whole _) arg4 harg4 arg5 harg5 arg6 harg6 wdM (Memref.isWhole_whole _) bufM (Memref.isWhole_whole _) cc0_scratch2 h1 where
  inv k _ := resAt c XA arg4 g4 k (wdAcc c XA i arg4 h1 g4 f0 k)
  step k _ := by
    have e : wdAcc c XA i arg4 h1 g4 f0 (k.val + 1) = wdM.view.writes (Elt F) (wdAcc c XA i arg4 h1 g4 f0 k) (tripL c XA i arg4 h1 g4 k) := by
      rw [wdAcc, dif_pos k.isLt]
    rw [e]
    iintro H
    iapply (wp_wand_r Idealize.ShloMosaic.frame (wpE (defs₀ (F := F)) 𝒱₀ (c : Thread nD τ) none) Set.univ)
    isplitl [H]
    · iapply (trip c XA i arg1 harg1 arg2 harg2 arg4 harg4 arg5 harg5 arg6 harg6 h1 g4 k _); iexact H
    · iintro %_ H'
      iexact H'

/-- After the last trip every block is home and both slots are free. -/
theorem resAt_end (fo : Buf (Elt F) (wdM.view.loc (c : Thread nD τ))) :
    resAt c XA arg4 g4 20 fo ⊢ iprop(wdP c fo ∗ wsP c arg4 g4 ∗ (∃ W, owes (c : Thread nD τ) 0 W) ∗ bigSep Finset.univ (homeP c XA)
      ∗ (∃ f, slotP c 0 f) ∗ (∃ f, slotP c 1 f) ∗ cellP c 0 ∗ cellP c 1) := by
  unfold resAt
  rw [slotAt_ge c XA (le_refl 20), Ring.homeSet_last 1 20 (le_refl 20), show Ring.sl 2 20 = 0 from Fin.ext (by rfl), show Ring.sl 2 (20 + 1) = 1 from Fin.ext (by rfl)]
  iintro ⟨HO, HS, HW, Hh, Hs1, Hc1, Hs0, Hc0⟩
  isplitl [HO]; · iexact HO
  isplitl [HS]; · iexact HS
  isplitl [HW]; · iexact HW
  isplitl [Hh]; · iexact Hh
  isplitl [Hs0]; · iexact Hs0
  isplitl [Hs1]; · iexact Hs1
  isplitl [Hc0]; · iexact Hc0
  iexact Hc1

/-- What the body goes on with after the loop. -/
instance loopExit1 (f0 : Buf (Elt F) (wdM.view.loc (c : Thread nD τ))) :
    LoopExit (loopInv1 c XA i arg1 harg1 arg2 harg2 arg4 harg4 arg5 harg5 arg6 harg6 h1 g4 f0) where
  post _ := iprop(wdP c (wdAcc c XA i arg4 h1 g4 f0 20) ∗ wsP c arg4 g4 ∗ (∃ W, owes (c : Thread nD τ) 0 W) ∗ bigSep Finset.univ (homeP c XA)
      ∗ (∃ f, slotP c 0 f) ∗ (∃ f, slotP c 1 f) ∗ cellP c 0 ∗ cellP c 1)
  exit _ := resAt_end c XA arg4 g4 (wdAcc c XA i arg4 h1 g4 f0 20)

end Trip

end Cert.KernelIdeal.Hand

end
-- ==== Proof.KernelIdeal.Body.lean ====
/-
  The body at a point. At the first point it runs the weight loop and so leaves the dequantised weight in scratch; at every
  point it then loads the activation block's eighty column groups, multiplies, adds the residual and stores the
  output block.
-/
module

public import proofs.«01_k».proof.Proof.KernelIdeal.Trip

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's, beside the counters the body's own copies ride on. -/
local notation "𝕄" => MT nD τ sig Unit (Elt F) ℕ (Pipeline.UD sig nD τ) ℕ

/-- Column group `g`: columns `128 g` to `128 g + 127`. -/
theorem col_inb (g : Fin 80) : ∀ a, (![0, 128 * g.val] : Fin 2 → Nat) a + S256x128.size a ≤ S256x10240.size a := by
  have := g.isLt; intro a; fin_cases a
  · show 0 + 256 ≤ 256; omega
  · show 128 * g.val + 128 ≤ 10240; omega
theorem col_slices (g : Fin 80) : S256x80.Slices ![0, g.val] S256x1 :=
  ⟨rfl, fun a => by
    have := g.isLt; fin_cases a
    · show 0 + 256 ≤ 256; omega
    · show g.val + 1 ≤ 80; omega⟩

/-- Column group `g` of the activation block times its column of scales. -/
def piece (v3 : Vec F S80x256 .f32) (x : Vec F S256x128 .fp8e4m3) (g : Fin 80) : FVec F S256x128 .bf16 :=
  mulf (extf .bf16 (shapeCast S256x128 x shapeCasts_S256x128_S256x128) bitsLt_fp8e4m3_bf16)
    (broadcastTo S256x128 (extractStridedSlice S256x1 ![0, g.val] (k0_pay8 v3) (col_slices g)) broadcasts_S256x1_S256x128)

/-- The eighty pieces side by side; -/
def pieces (v3 : Vec F S80x256 .f32) (x : Fin 80 → Vec F S256x128 .fp8e4m3) : List ((s : Shape) × (s.Idx → Elt F .bf16)) :=
  List.ofFn fun g : Fin 80 => ⟨S256x128, piece v3 (x g) g⟩

/-- Their shapes fit the joined array. -/
theorem pieces_cat (v3 : Vec F S80x256 .f32) (x : Fin 80 → Vec F S256x128 .fp8e4m3) :
    Shape.Concatenates ((pieces v3 x).map (·.1)) S256x10240 1 := concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x10240_d1

/-- The block a point stores: the pieces side by side times the dequantised weight, plus the residual. -/
def outVal (v3 : Vec F S80x256 .f32) (x : Fin 80 → Vec F S256x128 .fp8e4m3) (wd : Vec F S10240x1920 .bf16) (res : Vec F S256x1920 .bf16) :
    FVec F S256x1920 .bf16 :=
  k0_pay1 (matmul dot_S256x10240_S10240x1920_S256x1920_1_0_0_1_n_n none (concatenate S256x10240 1 (pieces v3 x) (pieces_cat v3 x)) wd (constant S256x1920 .f32 0x00000000#32)) res

section Body

variable (c : Dev nD) (XA : Buf (Elt F) (wM.view.loc (c : Thread nD τ))) (i : grid0.Coords)
  (arg1 : Memref sig .tc .vmem S256x10240 .fp8e4m3) (harg1 : arg1.IsWhole)
  (arg2 : Memref sig .tc .vmem S80x256 .f32) (harg2 : arg2.IsWhole)
  (arg4 : Memref sig .tc .vmem S80x1920 .f32) (harg4 : arg4.IsWhole)
  (arg5 : Memref sig .tc .vmem S256x1920 .bf16) (harg5 : arg5.IsWhole)
  (arg6 : Memref sig .tc .vmem S256x1920 .bf16) (harg6 : arg6.IsWhole)
  (g1 : Buf (Elt F) (arg1.view.loc (c : Thread nD τ)))
  (g2 : Buf (Elt F) (arg2.view.loc (c : Thread nD τ)))
  (g4 : Buf (Elt F) (arg4.view.loc (c : Thread nD τ)))
  (g5 : Buf (Elt F) (arg5.view.loc (c : Thread nD τ)))

/-- The body on the given staging memrefs, `w_codes`, the scratch buffers and the semaphores its own. -/
abbrev bodyG : Prog (TpuEff nD τ sig (Elt F) Λ₀ .tc) PUnit :=
  cc0__body i arg1 harg1 arg2 harg2 wM (Memref.isWhole_whole _) arg4 harg4 arg5 harg5 arg6 harg6 wdM (Memref.isWhole_whole _) bufM (Memref.isWhole_whole _) cc0_scratch2

abbrev xP : sProp 𝕄 := arg1.view.loc (c : Thread nD τ) ↦[arg1.view.set]{fullShare} g1
abbrev xsP : sProp 𝕄 := arg2.view.loc (c : Thread nD τ) ↦[arg2.view.set]{fullShare} g2
abbrev resP : sProp 𝕄 := arg5.view.loc (c : Thread nD τ) ↦[arg5.view.set]{fullShare} g5
abbrev outP (gO : Buf (Elt F) (arg6.view.loc (c : Thread nD τ))) : sProp 𝕄 := arg6.view.loc (c : Thread nD τ) ↦[arg6.view.set]{fullShare} gO

abbrev R00 : Rect S256x1920 := Rect.unit (s := S256x1920) ![0, 0] S256x1920.size inb_S256x1920_S256x1920_0_0

/-- Column group `g` of the activation block, loaded. -/
abbrev xLoad (g : Fin 80) : Vec F S256x128 .fp8e4m3 :=
  View.readAt (Elt F) arg1.view (Rect.unit (s := S256x10240) ![0, 128 * g.val] S256x128.size (col_inb g)).toLoadRect g1

set_option maxHeartbeats 1000000 in
set_option backward.proofsInPublic true in
/-- A point past the first: what it stores, found by running it. -/
def restRun (h1 : ¬ k0_cond1 i = 1#1) (fo : Buf (Elt F) (wdM.view.loc (c : Thread nD τ))) :
    { w : (R00).shape.Idx → Elt F .bf16 // ∀ (gO : Buf (Elt F) (arg6.view.loc (c : Thread nD τ))) (Q : PUnit → sProp 𝕄),
      iprop((xP c arg1 g1 ∗ xsP c arg2 g2 ∗ wsP c arg4 g4 ∗ resP c arg5 g5 ∗ outP c arg6 gO ∗ wdP c fo)
        ∗ ((xP c arg1 g1 ∗ xsP c arg2 g2 ∗ wsP c arg4 g4 ∗ resP c arg5 g5 ∗ outP c arg6 (arg6.view.writes (Elt F) gO [⟨R00, w⟩]) ∗ wdP c fo) -∗ Q ⟨⟩))
      ⊢ wp frame (wpE (defs₀ (F := F)) 𝒱₀ (c : Thread nD τ) none) Set.univ (bodyG i arg1 harg1 arg2 harg2 arg4 harg4 arg5 harg5 arg6 harg6) Q } := by
  refine ⟨?_, ?run⟩
  case run =>
    intro gO Q
    iintro ⟨⟨H1, H2, H4, H5, H6, H7⟩, Hk⟩
    dsimp only [bodyG]
    sl_exec (disch := sl_exact h1)
    sl_step
    iapply Hk
    isplitl [H1]; · iexact H1
    isplitl [H2]; · iexact H2
    isplitl [H4]; · iexact H4
    isplitl [H5]; · iexact H5
    isplitl [H6]; · iexact H6
    iexact H7

/-- The block stored over the staging buffers' contents and the dequantised weight `fo`. -/
abbrev outOf (fo : Buf (Elt F) (wdM.view.loc (c : Thread nD τ))) : FVec F S256x1920 .bf16 :=
  outVal (View.readAt (Elt F) arg2.view (Rect.unit (s := S80x256) ![0, 0] S80x256.size inb_S80x256_S80x256_0_0).toLoadRect g2)
    (xLoad c arg1 g1)
    (View.readAt (Elt F) wdM.view (Rect.unit (s := S10240x1920) ![0, 0] S10240x1920.size inb_S10240x1920_S10240x1920_0_0).toLoadRect fo)
    (View.readAt (Elt F) arg5.view (Rect.unit (s := S256x1920) ![0, 0] S256x1920.size inb_S256x1920_S256x1920_0_0).toLoadRect g5)

theorem restRun_val (h1 : ¬ k0_cond1 i = 1#1) (fo : Buf (Elt F) (wdM.view.loc (c : Thread nD τ))) :
    (restRun c i arg1 harg1 arg2 harg2 arg4 harg4 arg5 harg5 arg6 harg6 g1 g2 g4 g5 h1 fo).1 = outOf c arg1 arg2 arg5 g1 g2 g5 fo := rfl

-- the names before the loop are the invariant's at trip 0
theorem sl2_0 : Ring.sl 2 0 = 0 := Fin.ext (by rfl)
theorem sl2_1 : Ring.sl 2 (0 + 1) = 1 := Fin.ext (by rfl)
theorem bk20_0 : Ring.bk 20 0 = 0 := Fin.ext (by rfl)

/-- What the first point takes beside its windows: block 0 and the other blocks at home, the slots and their semaphores. -/
abbrev streamP : sProp 𝕄 :=
  iprop(homeP c XA 0 ∗ bigSep (Ring.homeSet 1 0) (homeP c XA) ∗ (∃ f, slotP c 0 f) ∗ (∃ f, slotP c 1 f) ∗ cellP c 0 ∗ cellP c 1)
/-- What it hands back: every block at home, the slots, the semaphores. -/
abbrev streamQ : sProp 𝕄 :=
  iprop(bigSep Finset.univ (homeP c XA) ∗ (∃ f, slotP c 0 f) ∗ (∃ f, slotP c 1 f) ∗ cellP c 0 ∗ cellP c 1)

/-- The dequantised weight as the loop leaves it. -/
abbrev wdEnd (h1 : k0_cond1 i = 1#1) (fo : Buf (Elt F) (wdM.view.loc (c : Thread nD τ))) : Buf (Elt F) (wdM.view.loc (c : Thread nD τ)) :=
  wdAcc c XA i arg4 h1 g4 fo 20

set_option maxHeartbeats 1000000 in
attribute [local sl_canon] sl2_0 sl2_1 bk20_0 in
/-- The first point. -/
theorem firstRun (h1 : k0_cond1 i = 1#1) (fo : Buf (Elt F) (wdM.view.loc (c : Thread nD τ)))
    (gO : Buf (Elt F) (arg6.view.loc (c : Thread nD τ))) (W : Waits sig Unit) (Q : PUnit → sProp 𝕄) :
    iprop((xP c arg1 g1 ∗ xsP c arg2 g2 ∗ wsP c arg4 g4 ∗ resP c arg5 g5 ∗ outP c arg6 gO ∗ wdP c fo ∗ streamP c XA ∗ owes (c : Thread nD τ) 0 W)
        ∗ ((xP c arg1 g1 ∗ xsP c arg2 g2 ∗ wsP c arg4 g4 ∗ resP c arg5 g5
              ∗ outP c arg6 (arg6.view.writes (Elt F) gO [⟨R00, outOf c arg1 arg2 arg5 g1 g2 g5 (wdEnd c XA i arg4 g4 h1 fo)⟩])
              ∗ wdP c (wdEnd c XA i arg4 g4 h1 fo) ∗ streamQ c XA ∗ ∃ W, owes (c : Thread nD τ) 0 W) -∗ Q ⟨⟩))
      ⊢ wp frame (wpE (defs₀ (F := F)) 𝒱₀ (c : Thread nD τ) none) Set.univ (bodyG i arg1 harg1 arg2 harg2 arg4 harg4 arg5 harg5 arg6 harg6) Q := by
  iintro ⟨⟨H1, H2, H4, H5, H6, H7, ⟨Hg0, Hh, ⟨%f0, Hs0⟩, ⟨%f1, Hs1⟩, Hc0, Hc1⟩, HW⟩, Hk⟩
  dsimp only [bodyG]
  sl_exec (disch := sl_exact h1)
  sl_step
  iapply Hk
  isplitl [H1]; · iexact H1
  isplitl [H2]; · iexact H2
  isplitl [HL1]; · iexact HL1
  isplitl [H5]; · iexact H5
  isplitl [H6]; · iexact H6
  isplitl [HL0]; · iexact HL0
  isplitl [HL3 HL4 HL5 HL6 HL7]
  · unfold streamQ
    isplitl [HL3]; · iexact HL3
    isplitl [HL4]; · iexists _; iexact HL4
    isplitl [HL5]; · iexists _; iexact HL5
    isplitl [HL6]; · iexact HL6
    iexact HL7
  iexists _; iexact HL2

end Body

end Cert.KernelIdeal.Hand

end
-- ==== Proof.KernelIdeal.Weight.lean ====
/-
  What the weight loop leaves in its scratch array: row `y₀` of the dequantised weight is row `y₀` of `w_codes` times
  row `y₀ / 128` of the scales, whatever the array held before. Each trip stores four bands of 128 rows; each band is
  one group of rows with its own row of scales.
-/
module

public import proofs.«01_k».proof.Proof.KernelIdeal.Trip
public import Idealize.ShloMosaic.Lib.WritesUnit
public import Idealize.ShloMosaic.Lib.Pipeline.Value
public import Idealize.ShloMosaic.Lib.Pointwise

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL.Sem

variable {F : FTy → Type} [FloatOps F]

/-! ## The weight as one function -/

/-- Rows `128 a …` of the codes, as a band is loaded; -/
def qRows (X : Vec F S10240x1920 .fp8e4m3) (a : Fin 80) : Vec F S1x128x1920 .fp8e4m3 :=
  fun j => X (ix2 ⟨128 * a.val + (j 1).val, by have := a.isLt; have h : (j 1).val < 128 := (j 1).isLt; omega⟩ (j 2))
/-- row `a` of the scales. -/
def sRow (s : Vec F S80x1920 .f32) (a : Fin 80) : Vec F S1x1920 .f32 := fun j => s (ix2 a (j 1))
/-- The dequantised weight. -/
def wdOf (X : Vec F S10240x1920 .fp8e4m3) (s : Vec F S80x1920 .f32) : Vec F S10240x1920 .bf16 := fun y =>
  have h : (y 0).val < 10240 := (y 0).isLt
  k0_pay2 (qRows X ⟨(y 0).val / 128, by omega⟩) (sRow s ⟨(y 0).val / 128, by omega⟩) (ix2 ⟨(y 0).val % 128, by omega⟩ (y 1))

/-! ## One band -/

/-- A slot's view places row `p` of the block at row `p` of the slot. -/
theorem rslot_emb (s : Fin 2) (x : S512x1920.Idx) :
    (rslot s : Memref sig .tc .vmem S512x1920 .fp8e4m3).view.emb x = bufM.view.emb ((Rect.unit (s := S2x512x1920) (slotOff s) S1x512x1920.size (slotOff_inb s)).emb (Fin.cons ⟨0, Nat.one_pos⟩ x)) :=
  shapeCast_dropUnit_apply ![512, 1920] (fun z => bufM.view.emb ((Rect.unit (s := S2x512x1920) (slotOff s) S1x512x1920.size (slotOff_inb s)).emb z)) squeezes_S1x512x1920_S512x1920.numel_eq x

/-- Row `128 r + p` of a slot through the whole ring is that row through the slot. -/
theorem band_emb (s : Fin 2) (r : Fin 4) (h) (p0 : Fin 1) (p : Fin 128) (q : Fin 1920) :
    (Rect.unit (s := S2x512x1920) ![s.val, 128 * r.val, 0] S1x128x1920.size h).emb (ix3 p0 p q)
      = (rslot s : Memref sig .tc .vmem S512x1920 .fp8e4m3).view.emb (ix2 ⟨128 * r.val + p.val, by have := r.isLt; have := p.isLt; omega⟩ q) := by
  rw [rslot_emb]
  have h0 := p0.isLt
  refine funext fun a => Fin.ext ?_
  match a with
  | ⟨0, _⟩ => show s.val + 1 * p0.val = s.val + 1 * 0; omega
  | ⟨1, _⟩ => show 128 * r.val + 1 * p.val = 0 + 1 * (128 * r.val + p.val); omega
  | ⟨2, _⟩ => show 0 + 1 * q.val = 0 + 1 * q.val; rfl

section Band

variable (c : Dev nD) (XA : Buf (Elt F) (wM.view.loc (c : Thread nD τ))) (i : grid0.Coords)
  (arg4 : Memref sig .tc .vmem S80x1920 .f32) (h1 : k0_cond1 i = 1#1) (g4 : Buf (Elt F) (arg4.view.loc (c : Thread nD τ)))

/-- What a slot holds once block `b` has landed in it, read through the ring at row `128 r + p`: row `512 b + 128 r + p` of the codes. -/
theorem band_read (s : Fin 2) (b : Fin 20) (r : Fin 4) (h) (p0 : Fin 1) (p : Fin 128) (q : Fin 1920) (f) :
    landed c XA s b f ((Rect.unit (s := S2x512x1920) ![s.val, 128 * r.val, 0] S1x128x1920.size h).emb (ix3 p0 p q))
      = wM.view.read (Elt F) XA (ix2 ⟨128 * (4 * b.val + r.val) + p.val, by have := b.isLt; have := r.isLt; have := p.isLt; omega⟩ q) := by
  rw [band_emb]
  have e := congrFun (View.read_writes_whole (rslot s : Memref sig .tc .vmem S512x1920 .fp8e4m3).view f (payload c XA b))
    (ix2 ⟨128 * r.val + p.val, by have := r.isLt; have := p.isLt; omega⟩ q)
  rw [View.read_apply] at e
  refine Eq.trans ?_ (e.trans ?_)
  · exact (cast_eq _ _).symm
  refine congrArg XA (funext fun a => Fin.ext ?_)
  match a with
  | ⟨0, _⟩ => show 512 * b.val + 1 * (128 * r.val + p.val) = 128 * (4 * b.val + r.val) + p.val; omega
  | ⟨1, _⟩ => show 0 + 1 * q.val = q.val; omega

/-- A load from the whole ring reads it at the rectangle's places. -/
theorem buf_readAt (g : Buf (Elt F) (bufM.view.loc (c : Thread nD τ))) (R : Rect S2x512x1920) (j : R.shape.Idx) :
    View.readAt (Elt F) bufM.view R.toLoadRect g j = g (R.emb j) := rfl

/-- 128 rows from row `128 r` of the slot block `k` has landed in are the codes of group `4 k + r`. -/
theorem qLoad_eq (k : Fin k0_t1_loop.trips) (r : Fin 4) (off : Fin 3 → Nat) (h) (e : off = ![(Ring.sl 2 k.val).val, 128 * r.val, 0])
    (ha : 4 * k.val + r.val < 80) :
    qLoad c XA k off h = qRows (wM.view.read (Elt F) XA) ⟨4 * k.val + r.val, ha⟩ := by
  subst e
  funext j
  idx_vars j
  rw [qLoad, buf_readAt]
  refine (band_read c XA (Ring.sl 2 k.val) (Ring.bk 20 k.val) r h j0 j1 j2 _).trans ?_
  have hb : (Ring.bk 20 k.val).val = k.val := Nat.mod_eq_of_lt (lt20 k)
  refine congrArg (wM.view.read (Elt F) XA) (funext fun a => Fin.ext ?_)
  match a with
  | ⟨0, _⟩ => show 128 * (4 * (Ring.bk 20 k.val).val + r.val) + j1.val = 128 * (4 * k.val + r.val) + j1.val; rw [hb]
  | ⟨1, _⟩ => rfl

/-- The scale row of group `4 k + r`. -/
theorem sLoad_eq (k : Fin k0_t1_loop.trips) (r : Fin 4) (h) (ha : 4 * k.val + r.val < 80) :
    sLoad c arg4 g4 k (BitVec.ofNat 32 r.val) h = sRow (arg4.view.read (Elt F) g4) ⟨4 * k.val + r.val, ha⟩ := by
  funext j
  refine congrArg (arg4.view.read (Elt F) g4) (funext fun a => Fin.ext ?_)
  have h0 : (j 0).val < 1 := (j 0).isLt
  have e := off8_eq k r
  match a with
  | ⟨0, _⟩ => show k0_off8 k (BitVec.ofNat 32 r.val) 0 + 1 * (j 0).val = 4 * k.val + r.val; rw [e]; show 4 * k.val + r.val + 1 * (j 0).val = _; omega
  | ⟨1, _⟩ => show k0_off8 k (BitVec.ofNat 32 r.val) 1 + 1 * (j 1).val = (j 1).val; rw [e]; show 0 + 1 * (j 1).val = _; omega

/-- Row `128 a + p` of the dequantised weight is row `p` of group `a`'s band. -/
theorem wdOf_at (X : Vec F S10240x1920 .fp8e4m3) (s : Vec F S80x1920 .f32) (a : Fin 80) (x : S128x1920.Idx) (y : S10240x1920.Idx)
    (h0 : (y 0).val = 128 * a.val + (x 0).val) (h1 : (y 1).val = (x 1).val) :
    wdOf X s y = k0_pay2 (qRows X a) (sRow s a) x := by
  have hx : (x 0).val < 128 := (x 0).isLt
  have hy : (y 0).val < 10240 := (y 0).isLt
  have ea : (⟨(y 0).val / 128, by omega⟩ : Fin 80) = a := Fin.ext (by show (y 0).val / 128 = a.val; omega)
  have ex : (ix2 ⟨(y 0).val % 128, by omega⟩ (y 1) : S128x1920.Idx) = x := funext fun b => Fin.ext (by
    match b with
    | ⟨0, _⟩ => show (y 0).val % 128 = (x 0).val; omega
    | ⟨1, _⟩ => exact h1)
  show k0_pay2 (qRows X ⟨(y 0).val / 128, by omega⟩) (sRow s ⟨(y 0).val / 128, by omega⟩) (ix2 ⟨(y 0).val % 128, by omega⟩ (y 1)) = _
  rw [ea, ex]

/-- What quarter `r` of trip `k` stores is the dequantised weight at the rows it is stored to. -/
theorem band_eq (k : Fin k0_t1_loop.trips) (r : Fin 4) (off : Fin 3 → Nat) (hq) (e : off = ![(Ring.sl 2 k.val).val, 128 * r.val, 0])
    (hs hw) (x : S128x1920.Idx) :
    k0_pay2 (qLoad c XA k off hq) (sLoad c arg4 g4 k (BitVec.ofNat 32 r.val) hs) x
      = wdOf (wM.view.read (Elt F) XA) (arg4.view.read (Elt F) g4)
          ((Rect.unit (s := S10240x1920) (k0_off9 k (BitVec.ofNat 32 (128 * r.val))) S128x1920.size hw).emb x) := by
  have hk := lt20 k
  have hr := r.isLt
  have ha : 4 * k.val + r.val < 80 := by omega
  rw [qLoad_eq c XA k r off hq e ha, sLoad_eq c arg4 g4 k r hs ha]
  have e9 := off9_eq k r
  refine (wdOf_at _ _ ⟨4 * k.val + r.val, ha⟩ x _ ?_ ?_).symm
  · show k0_off9 k (BitVec.ofNat 32 (128 * r.val)) 0 + 1 * (x 0).val = 128 * (4 * k.val + r.val) + (x 0).val
    rw [e9]; show 512 * k.val + 128 * r.val + 1 * (x 0).val = _; omega
  · show k0_off9 k (BitVec.ofNat 32 (128 * r.val)) 1 + 1 * (x 1).val = (x 1).val
    rw [e9]; show 0 + 1 * (x 1).val = _; omega

/-! ## The whole loop -/

/-- The rows quarter `r` of trip `k` stores to. -/
theorem mem_band (k : Fin k0_t1_loop.trips) (r : Fin 4) (hw) (y : S10240x1920.Idx) :
    y ∈ (Rect.unit (s := S10240x1920) (k0_off9 k (BitVec.ofNat 32 (128 * r.val))) S128x1920.size hw).set
      ↔ 512 * k.val + 128 * r.val ≤ (y 0).val ∧ (y 0).val < 512 * k.val + 128 * r.val + 128 := by
  rw [Rect.mem_set_unit]
  have h1 : (y 1).val < 1920 := (y 1).isLt
  have e9 := off9_eq k r
  constructor
  · intro H
    have a0 : k0_off9 k (BitVec.ofNat 32 (128 * r.val)) 0 ≤ (y 0).val ∧ (y 0).val < k0_off9 k (BitVec.ofNat 32 (128 * r.val)) 0 + 128 := H 0
    rw [e9] at a0; exact a0
  · intro H a
    rw [e9]
    match a with
    | ⟨0, _⟩ => exact H
    | ⟨1, _⟩ => show 0 ≤ (y 1).val ∧ (y 1).val < 0 + 1920; omega

/-- A trip's pieces are the dequantised weight where they are stored; -/
theorem tripL_agree (k : Fin k0_t1_loop.trips) : ∀ p ∈ tripL c XA i arg4 h1 g4 k, ∀ x : p.1.shape.Idx,
    p.2 x = wdOf (wM.view.read (Elt F) XA) (arg4.view.read (Elt F) g4) (p.1.emb x) := by
  intro p hp
  simp only [tripL, List.mem_cons, List.mem_nil_iff, or_false] at hp
  rcases hp with rfl | rfl | rfl | rfl
  · exact band_eq c XA arg4 g4 k 3 _ _ (off12_eq k) (k0_off8_inb i k h1 3) (k0_off9_inb i k h1 3)
  · exact band_eq c XA arg4 g4 k 2 _ _ (off11_eq k) (k0_off8_inb i k h1 2) (k0_off9_inb i k h1 2)
  · exact band_eq c XA arg4 g4 k 1 _ _ (off10_eq k) (k0_off8_inb i k h1 1) (k0_off9_inb i k h1 1)
  · exact band_eq c XA arg4 g4 k 0 _ _ (off7_eq k) (k0_off8_inb i k h1 0) (k0_off9_inb i k h1 0)

/-- they cover the trip's 512 rows, and no more. -/
theorem tripL_cover (k : Fin k0_t1_loop.trips) (y : S10240x1920.Idx) :
    (∃ p ∈ tripL c XA i arg4 h1 g4 k, y ∈ p.1.set) ↔ 512 * k.val ≤ (y 0).val ∧ (y 0).val < 512 * k.val + 512 := by
  have m3 := mem_band k 3 (k0_off9_inb i k h1 3) y
  have m2 := mem_band k 2 (k0_off9_inb i k h1 2) y
  have m1 := mem_band k 1 (k0_off9_inb i k h1 1) y
  have m0 := mem_band k 0 (k0_off9_inb i k h1 0) y
  simp only [tripL, List.mem_cons, List.mem_nil_iff, or_false, exists_eq_or_imp, exists_eq_left]
  refine (or_congr m3 (or_congr m2 (or_congr m1 m0))).trans ?_
  show (512 * k.val + 128 * 3 ≤ (y 0).val ∧ (y 0).val < 512 * k.val + 128 * 3 + 128) ∨ (512 * k.val + 128 * 2 ≤ (y 0).val ∧ (y 0).val < 512 * k.val + 128 * 2 + 128)
    ∨ (512 * k.val + 128 * 1 ≤ (y 0).val ∧ (y 0).val < 512 * k.val + 128 * 1 + 128) ∨ (512 * k.val + 128 * 0 ≤ (y 0).val ∧ (y 0).val < 512 * k.val + 128 * 0 + 128) ↔ _
  omega

theorem wdAcc_succ (f0 : Buf (Elt F) (wdM.view.loc (c : Thread nD τ))) (k : ℕ) (hk : k < k0_t1_loop.trips) :
    wdAcc c XA i arg4 h1 g4 f0 (k + 1) = wdM.view.writes (Elt F) (wdAcc c XA i arg4 h1 g4 f0 k) (tripL c XA i arg4 h1 g4 ⟨k, hk⟩) := by
  rw [wdAcc, dif_pos hk]

/-- One trip more. -/
theorem read_trip (k : ℕ) (hk' : k < k0_t1_loop.trips) (f : Buf (Elt F) (wdM.view.loc (c : Thread nD τ))) (y : S10240x1920.Idx)
    (ih : k ≤ 20 → (y 0).val < 512 * k → wdM.view.read (Elt F) f y = wdOf (wM.view.read (Elt F) XA) (arg4.view.read (Elt F) g4) y)
    (hy : (y 0).val < 512 * (k + 1)) :
    wdM.view.read (Elt F) (wdM.view.writes (Elt F) f (tripL c XA i arg4 h1 g4 ⟨k, hk'⟩)) y = wdOf (wM.view.read (Elt F) XA) (arg4.view.read (Elt F) g4) y := by
  by_cases h : 512 * k ≤ (y 0).val
  · exact View.read_writes_apply_of_pieces _ _ _ _ (tripL_agree c XA i arg4 h1 g4 ⟨k, hk'⟩) y
      ((tripL_cover c XA i arg4 h1 g4 ⟨k, hk'⟩ y).2 ⟨h, by show (y 0).val < 512 * k + 512; omega⟩)
  · have hk := lt20 ⟨k, hk'⟩
    rw [View.read_writes_apply_of_forall_not_mem]
    · exact ih (Nat.le_of_lt hk) (by omega)
    · intro p hp hm
      exact h ((tripL_cover c XA i arg4 h1 g4 ⟨k, hk'⟩ y).1 ⟨p, hp, hm⟩).1

/-- Before trip `k` the first `512 k` rows are done. -/
theorem wdAcc_rows (f0 : Buf (Elt F) (wdM.view.loc (c : Thread nD τ))) (k : ℕ) (hk : k ≤ 20) (y : S10240x1920.Idx) (hy : (y 0).val < 512 * k) :
    wdM.view.read (Elt F) (wdAcc c XA i arg4 h1 g4 f0 k) y = wdOf (wM.view.read (Elt F) XA) (arg4.view.read (Elt F) g4) y := by
  induction k with
  | zero => omega
  | succ k ih =>
    have hk' : k < k0_t1_loop.trips := by rw [trips_eq]; omega
    rw [wdAcc_succ c XA i arg4 h1 g4 f0 k hk']
    exact read_trip c XA i arg4 h1 g4 k hk' _ y ih hy

/-- Contents of the whole array that read as `X` are `X`. -/
theorem wd_ext (g : Buf (Elt F) (wdM.view.loc (c : Thread nD τ))) (X : Vec F S10240x1920 .bf16) (h : ∀ y, wdM.view.read (Elt F) g y = X y) : g = X :=
  funext h

/-- After the loop the array is the dequantised weight. -/
theorem wdAcc_end (f0 : Buf (Elt F) (wdM.view.loc (c : Thread nD τ))) :
    wdAcc c XA i arg4 h1 g4 f0 20 = wdOf (wM.view.read (Elt F) XA) (arg4.view.read (Elt F) g4) :=
  wd_ext c _ _ fun y => wdAcc_rows c XA i arg4 h1 g4 f0 20 (le_refl 20) y (y 0).isLt

end Band

end Cert.KernelIdeal.Hand

end
-- ==== Proof.KernelIdeal.Stream.lean ====
/-
  What the weight stream holds between points: `w_codes` whole as its twenty blocks, the ring whole as its two slots,
  the two semaphores.
-/
module

public import proofs.«01_k».proof.Proof.KernelIdeal.Trip

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body's own semaphores: the two slots'. -/
abbrev osem : Fin 2 → SemLoc sig := fun s => .dma (csm s).sem
theorem ownSemFacts : Pipeline.OwnSemFacts spec0 osem := by decide

/-! ## The element sets -/

abbrev G20 (b : Fin 20) : Finset S10240x1920.Idx := (Rect.unit (s := S10240x1920) (grpOff b) S512x1920.size (grpOff_inb b)).set
abbrev S2s (s : Fin 2) : Finset S2x512x1920.Idx := (Rect.unit (s := S2x512x1920) (slotOff s) S1x512x1920.size (slotOff_inb s)).set

theorem grp_set (b : Fin 20) : (grp b : Memref sig .tc .hbm _ _).view.set = G20 b := View.set_slice_whole _ _
theorem rslot_set (s : Fin 2) : (rslot s : Memref sig .tc .vmem _ _).view.set = S2s s := (View.set_reshape _ _).trans (View.set_slice_whole _ _)

theorem mem_G20 (b : Fin 20) (y : S10240x1920.Idx) : y ∈ G20 b ↔ 512 * b.val ≤ (y 0).val ∧ (y 0).val < 512 * b.val + 512 := by
  rw [Rect.mem_set_unit]
  have h1 : (y 1).val < 1920 := (y 1).isLt
  constructor
  · intro H; exact H 0
  · intro H a
    match a with
    | ⟨0, _⟩ => exact H
    | ⟨1, _⟩ => show 0 ≤ (y 1).val ∧ (y 1).val < 0 + 1920; omega
theorem mem_S2s (s : Fin 2) (y : S2x512x1920.Idx) : y ∈ S2s s ↔ (y 0).val = s.val := by
  rw [Rect.mem_set_unit]
  have h1 : (y 1).val < 512 := (y 1).isLt
  have h2 : (y 2).val < 1920 := (y 2).isLt
  constructor
  · intro H; have a0 : s.val ≤ (y 0).val ∧ (y 0).val < s.val + 1 := H 0; omega
  · intro H a
    match a with
    | ⟨0, _⟩ => show s.val ≤ (y 0).val ∧ (y 0).val < s.val + 1; omega
    | ⟨1, _⟩ => show 0 ≤ (y 1).val ∧ (y 1).val < 0 + 512; omega
    | ⟨2, _⟩ => show 0 ≤ (y 2).val ∧ (y 2).val < 0 + 1920; omega
theorem G20_disjoint : ∀ b b' : Fin 20, b ≠ b' → Disjoint (G20 b) (G20 b') := by
  intro b b' hne; rw [Finset.disjoint_left]; intro y hy hy'; rw [mem_G20] at hy hy'; exact hne (Fin.ext (by omega))
theorem G20_cover : (Finset.univ : Finset (Fin 20)).biUnion G20 = Finset.univ := by
  ext y; simp only [Finset.mem_biUnion, Finset.mem_univ, true_and, iff_true]
  have h0 : (y 0).val < 10240 := (y 0).isLt
  exact ⟨⟨(y 0).val / 512, by omega⟩, by rw [mem_G20]; show 512 * ((y 0).val / 512) ≤ (y 0).val ∧ (y 0).val < 512 * ((y 0).val / 512) + 512; omega⟩
theorem S2s_disjoint : ∀ s s' : Fin 2, s ≠ s' → Disjoint (S2s s) (S2s s') := by
  intro s s' hne; rw [Finset.disjoint_left]; intro y hy hy'; rw [mem_S2s] at hy hy'; exact hne (Fin.ext (hy.symm.trans hy'))
theorem S2s_cover : (Finset.univ : Finset (Fin 2)).biUnion S2s = Finset.univ := by
  ext y; simp only [Finset.mem_biUnion, Finset.mem_univ, true_and, iff_true]
  have h0 : (y 0).val < 2 := (y 0).isLt
  exact ⟨⟨(y 0).val, h0⟩, by rw [mem_S2s]⟩

theorem bigSep_fin2 (Φ : Fin 2 → sProp 𝕄) : bigSep Finset.univ Φ = iprop(Φ 0 ∗ Φ 1) :=
  bigSep_univ_eq_bigSepL [(0 : Fin 2), (1 : Fin 2)] (by decide) (by decide) Φ

theorem eq_entails {P Q : sProp 𝕄} (e : P = Q) : P ⊢ Q := e ▸ .rfl

/-! ## Whole and in pieces -/

/-- `w_codes` whole is its twenty blocks at home; -/
theorem w_eq (c : Dev nD) (XA : Buf (Elt F) ((c : Thread nD τ).loc main_arg2)) :
    (((c : Thread nD τ).loc main_arg2) ↦{fullShare} XA : sProp 𝕄) = bigSep Finset.univ (homeP c XA) := by
  rw [Ring.pointsTo_blocks (ℓ := (c : Thread nD τ).loc main_arg2) G20 G20_disjoint G20_cover]
  exact bigSep_congr fun b _ => by rw [← grp_set]; rfl
/-- as the loop takes them, block 0 apart from the rest. -/
theorem homes_zero (c : Dev nD) (XA : Buf (Elt F) (wM.view.loc (c : Thread nD τ))) :
    bigSep Finset.univ (homeP c XA) = iprop(homeP c XA 0 ∗ bigSep (Ring.homeSet 1 0) (homeP c XA)) := by
  have e : (Finset.univ : Finset (Fin 20)) = insert 0 (Ring.homeSet (NB := 20) 1 0) := by
    ext b; simp only [Finset.mem_univ, Finset.mem_insert, Ring.mem_homeSet, true_iff, Fin.ext_iff]; have := b.isLt
    show b.val = 0 ∨ _; omega
  rw [e, bigSep_insert (by simp [Ring.mem_homeSet])]; rfl

theorem slotP_eq (c : Dev nD) (s : Fin 2) (f) : slotP c s f = (((c : Thread nD τ).loc cc0_scratch1) ↦[S2s s]{fullShare} f : sProp 𝕄) :=
  congrArg (fun S => (_ ↦[S]{fullShare} f : sProp 𝕄)) (rslot_set s)
/-- The ring whole is its two slots; -/
theorem buf_split (c : Dev nD) :
    iprop(∃ f : Buf (Elt F) ((c : Thread nD τ).loc cc0_scratch1), ((c : Thread nD τ).loc cc0_scratch1) ↦{fullShare} f)
      ⊢ (iprop((∃ f, slotP c 0 f) ∗ ∃ f, slotP c 1 f) : sProp 𝕄) := by
  iintro ⟨%f, H⟩
  ihave H2 := (eq_entails ((Ring.pointsTo_blocks (Ix := Unit) (Name := ℕ) (U := Pipeline.UD sig nD τ) (Lvl := ℕ) (q := fullShare) (ℓ := (c : Thread nD τ).loc cc0_scratch1) S2s S2s_disjoint S2s_cover f).trans (bigSep_fin2 _))) $$ H
  icases H2 with ⟨H0, H1⟩
  isplitl [H0]
  · iexists f; iapply (eq_entails (slotP_eq c 0 f).symm); iexact H0
  · iexists f; iapply (eq_entails (slotP_eq c 1 f).symm); iexact H1
/-- and back. -/
theorem buf_join (c : Dev nD) :
    iprop((∃ f, slotP c 0 f) ∗ ∃ f, slotP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) S2s S2s_disjoint S2s_cover f0)
  irw [bigSep_fin2]
  isplitl [H0]
  · iexists f0; iapply (eq_entails (slotP_eq c 0 f0)); iexact H0
  · iexists f1; iapply (eq_entails (slotP_eq c 1 f1)); iexact H1

/-- The dequantised weight's array, whole. -/
theorem wdP_eq (c : Dev nD) (f : Buf (Elt F) ((c : Thread nD τ).loc cc0_scratch0)) :
    wdP c f = (((c : Thread nD τ).loc cc0_scratch0) ↦{fullShare} f : sProp 𝕄) :=
  congrArg (fun S => (_ ↦[S]{fullShare} f : sProp 𝕄)) (View.set_whole cc0_scratch0)

/-- The body's own semaphores at zero are the two slots'. -/
theorem ownSems0_eq (c : Dev nD) : (Pipeline.ownSems0 (Ix := Unit) (Name := ℕ) (U := Pipeline.UD sig nD τ) (Lvl := ℕ) (Val := Elt F) (τ := τ) osem c : sProp 𝕄)
    = iprop(cellP c 0 ∗ cellP c 1) := by
  unfold Pipeline.ownSems0; rw [bigSep_fin2]

end Cert.KernelIdeal.Hand

end
-- ==== Proof.KernelIdeal.Point.lean ====
/-
  The pipeline's proof data and one grid point: before the first point the dequantised weight is anything; after it, and
  through every later point, it is `wdW`, the whole product of the codes with their scales; each point leaves its output
  block at `outAt`.
-/
module

public import proofs.«01_k».proof.Proof.KernelIdeal.Body
public import proofs.«01_k».proof.Proof.KernelIdeal.Weight
public import proofs.«01_k».proof.Proof.KernelIdeal.Stream
public import Idealize.ShloMosaic.Lib.Pipeline.ValueKit
public import Idealize.ShloMosaic.Lib.VecWindow

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## A load off contents that read as a given block -/

theorem ld_rep {sp : Space} {S : Shape} {e : EltTy} (v : View sig .tc sp S e) (x : S.Idx → Elt F e) (R : Rect S) :
    View.readAt (Elt F) v R.toLoadRect (v.rep x) = fun j => x (R.emb j) :=
  funext fun j => congrFun (View.read_rep v x) _
theorem ld_rep_whole {sp : Space} {S : Shape} {e : EltTy} (v : View sig .tc sp S e) (x : S.Idx → Elt F e) {off : Fin S.rank → ℕ}
    (inb : ∀ a, off a + S.size a ≤ S.size a) : View.readAt (Elt F) v (Rect.unit off S.size inb).toLoadRect (v.rep x) = x := by
  rw [View.readAt_full]; exact View.read_rep v x

/-- Column group `g` of a `256 × 10240` block. -/
def colOf (x : S256x10240.Idx → Elt F .fp8e4m3) (g : Fin 80) : S256x128.Idx → Elt F .fp8e4m3 :=
  fun j => x ((Rect.unit (s := S256x10240) ![0, 128 * g.val] S256x128.size (col_inb g)).emb j)

theorem outOf_rep (c : Dev nD) (arg1 : Memref sig .tc .vmem S256x10240 .fp8e4m3) (arg2 : Memref sig .tc .vmem S80x256 .f32)
    (arg5 : Memref sig .tc .vmem S256x1920 .bf16) (x : S256x10240.Idx → Elt F .fp8e4m3) (xs : S80x256.Idx → Elt F .f32)
    (r : S256x1920.Idx → Elt F .bf16) (fo : Buf (Elt F) (wdM.view.loc (c : Thread nD τ))) :
    outOf c arg1 arg2 arg5 (arg1.view.rep x) (arg2.view.rep xs) (arg5.view.rep r) fo
      = outVal xs (colOf x) (wdM.view.read (Elt F) fo) r := by
  unfold outOf xLoad
  rw [ld_rep_whole, ld_rep_whole, View.readAt_full]
  simp only [ld_rep]
  rfl

section Data

variable (m : (ℓ : Loc nD τ sig) → Buf (Elt F) ℓ)

/-- `w_codes` and the repeated scales as the region finds them, -/
abbrev XA (c : Dev nD) : Buf (Elt F) ((c : Thread nD τ).loc main_arg2) := V m c main_arg2
abbrev wsA (c : Dev nD) : Vec F S80x1920 .f32 := V m c main_v1
/-- and their product, the dequantised weight. -/
def wdW (c : Dev nD) : Vec F S10240x1920 .bf16 := wdOf (XA m c) (wsA m c)

/-- The scratch holding the dequantised weight, before point `t`. -/
def wdAt (c : Dev nD) (t : ℕ) : sProp 𝕄 := if t = 0 then iprop(∃ f, wdP c f) else wdP c (wdW m c)

/-- The invariant before point `t`: `w_codes` at home, the ring and its semaphores free, the generator register, the weight. -/
def Φ (c : Dev nD) (t : ℕ) : sProp 𝕄 :=
  iprop(streamQ c (XA m c) ∗ (∃ r, prngReg c r) ∗ wdAt m c t)

/-- What point `t` leaves in the output window. -/
def outAt (c : Dev nD) (t : Fin cfg0.N) : FVec F S256x1920 .bf16 :=
  outVal (iblk m c 1 t) (colOf (iblk m c 0 t)) (wdW m c) (iblk m c 3 t)

/-- The pipeline's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := Φ m c t.val
  q _ := fullShare
  owed _ := 0

theorem A_eq (c : Dev nD) (w : Fin cfg0.W) : (dats m 0 c).A w = V m c (Pipeline.arrRef spec0 w) := by dsimp only [dats]
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = outAt m c t := by dsimp only [dats]
theorem Φ_castSucc (c : Dev nD) (t : Fin cfg0.N) : (dats m 0 c).Φ t.castSucc = Φ m c t.val := by dsimp only [dats]; rfl
theorem Φ_succ (c : Dev nD) (t : Fin cfg0.N) : (dats m 0 c).Φ t.succ = Φ m c (t.val + 1) := by dsimp only [dats]; rfl

/-- Each input's current staging buffer holds its block. -/
theorem before_w0 (c : Dev nD) (t : Fin cfg0.N) (d) : (dats m 0 c).before 0 t d = iblk m c 0 t :=
  ((dats m 0 c).before_in_eq_fetched 0 rfl (fun _ => rfl) (fun _ _ _ => rfl) (fun t => by rw [after_w0]; unfold Dat.blockOf iblk; rw [A_eq]; try rfl) t d).trans
    (by unfold Dat.fetched Dat.blockOf iblk; rw [A_eq]; try rfl)
theorem before_w1 (c : Dev nD) (t : Fin cfg0.N) (d) : (dats m 0 c).before 1 t d = iblk m c 1 t :=
  ((dats m 0 c).before_in_eq_fetched 1 rfl (fun _ => rfl) (fun _ _ _ => rfl) (fun t => by rw [after_w1]; unfold Dat.blockOf iblk; rw [A_eq]; try rfl) t d).trans
    (by unfold Dat.fetched Dat.blockOf iblk; rw [A_eq]; try rfl)
theorem before_w2 (c : Dev nD) (t : Fin cfg0.N) (d) : (dats m 0 c).before 2 t d = iblk m c 2 t :=
  ((dats m 0 c).before_in_eq_fetched 2 rfl (fun _ => rfl) (fun _ _ _ => rfl) (fun t => by rw [after_w2]; unfold Dat.blockOf iblk; rw [A_eq]; try rfl) t d).trans
    (by unfold Dat.fetched Dat.blockOf iblk; rw [A_eq]; try rfl)
theorem before_w3 (c : Dev nD) (t : Fin cfg0.N) (d) : (dats m 0 c).before 3 t d = iblk m c 3 t :=
  ((dats m 0 c).before_in_eq_fetched 3 rfl (fun _ => rfl) (fun _ _ _ => rfl) (fun t => by rw [after_w3]; unfold Dat.blockOf iblk; rw [A_eq]; try rfl) t d).trans
    (by unfold Dat.fetched Dat.blockOf iblk; rw [A_eq]; try rfl)

/-- The repeated scales' window is the whole array, at every point. -/
theorem idx2 : ∀ t : Fin cfg0.N, win0_2.index t = ![0, 0] := (by decide +kernel : ∀ t : Fin grid0.N, _)
theorem iblk2 (c : Dev nD) (t : Fin cfg0.N) : iblk m c 2 t = wsA m c := by
  blk_ext! [iblk, wsA, idx2 t]

/-- The first point is the one that streams. -/
theorem cond1_iff : ∀ t : Fin cfg0.N, k0_cond1 (grid0.coords t) = 1#1 ↔ t.val = 0 := (by decide +kernel : ∀ t : Fin grid0.N, _)

end Data

end Cert.KernelIdeal.Hand

end
-- ==== Proof.KernelIdeal.Run.lean ====
/-
  The whole run: every point keeps the proof data, so @main ends with every argument as it began, every semaphore at zero
  and the output array at what the twenty-four points wrote.
-/
module

public import proofs.«01_k».proof.Proof.KernelIdeal.Point

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## One point -/

/-- Before the first point the weight's array is anything; afterwards it is `wdW`. -/
theorem wdAt_zero (c : Dev nD) {t : ℕ} (h : t = 0) : wdAt m c t = iprop(∃ f, wdP c f) := if_pos h
theorem wdAt_pos (c : Dev nD) {t : ℕ} (h : t ≠ 0) : wdAt m c t = wdP c (wdW m c) := if_neg h

/-- The staging memrefs are whole. -/
theorem hst0 (t : Fin cfg0.N) : (st0_0 t).IsWhole := hstage0_0 ((cfg0.slots t 0).cast nbuf0_0)
theorem hst1 (t : Fin cfg0.N) : (st0_1 t).IsWhole := hstage0_1 ((cfg0.slots t 1).cast nbuf0_1)
theorem hst2 (t : Fin cfg0.N) : (st0_2 t).IsWhole := hstage0_2 ((cfg0.slots t 2).cast nbuf0_2)
theorem hst3 (t : Fin cfg0.N) : (st0_3 t).IsWhole := hstage0_3 ((cfg0.slots t 3).cast nbuf0_3)
theorem hst4 (t : Fin cfg0.N) : (st0_4 t).IsWhole := hstage0_4 ((cfg0.slots t 4).cast nbuf0_4)

/-- The body the pipeline calls at point `t`. -/
theorem defs₀_row (t : Fin cfg0.N) : defs₀ (F := F) .tc cfg0.body (cfg0.bodyArgs t (cfg0.slots t))
    = bodyG (grid0.coords t) (st0_0 t) (hst0 t) (st0_1 t) (hst1 t) (st0_2 t) (hst2 t) (st0_3 t) (hst3 t) (st0_4 t) (hst4 t) := by
  unfold defs₀; rw [Defs.onTc_tc]

/-- The weight the streaming point leaves is `wdW`. -/
theorem wdEnd_eq (c : Dev nD) (t : Fin cfg0.N) (h1 : k0_cond1 (grid0.coords t) = 1#1) (fo) :
    wdEnd c (XA m c) (grid0.coords t) (st0_2 t) ((st0_2 t).view.rep (iblk m c 2 t)) h1 fo = wdW m c := by
  unfold wdEnd
  rw [wdAcc_end]
  unfold wdW
  rw [show (st0_2 t).view.read (Elt F) ((st0_2 t).view.rep (iblk m c 2 t)) = wsA m c from (View.read_rep _ _).trans (iblk2 m c t)]
  rfl

/-- What the point stores is `outAt`. -/
theorem outOf_eq (c : Dev nD) (t : Fin cfg0.N) :
    outOf c (st0_0 t) (st0_1 t) (st0_3 t) ((st0_0 t).view.rep (iblk m c 0 t)) ((st0_1 t).view.rep (iblk m c 1 t))
      ((st0_3 t).view.rep (iblk m c 3 t)) (wdW m c) = outAt m c t :=
  (outOf_rep c (st0_0 t) (st0_1 t) (st0_3 t) (iblk m c 0 t) (iblk m c 1 t) (iblk m c 3 t) (wdW m c)).trans rfl

/-- One point, first or later: the inputs at their blocks, the stream and the weight at the invariant before it; the output's buffer with
    `outAt` stored over it and the invariant after it. -/
theorem point (c : Dev nD) (t : Fin cfg0.N) (gO : Buf (Elt F) ((st0_4 t).view.loc (c : Thread nD τ))) (W : Waits sig Unit) (Q : PUnit → sProp 𝕄) :
    iprop((xP c (st0_0 t) ((st0_0 t).view.rep (iblk m c 0 t)) ∗ xsP c (st0_1 t) ((st0_1 t).view.rep (iblk m c 1 t)) ∗ wsP c (st0_2 t) ((st0_2 t).view.rep (iblk m c 2 t)) ∗ resP c (st0_3 t) ((st0_3 t).view.rep (iblk m c 3 t))
          ∗ outP c (st0_4 t) gO ∗ streamQ c (XA m c) ∗ wdAt m c t.val ∗ owes (c : Thread nD τ) 0 W)
        ∗ ((xP c (st0_0 t) ((st0_0 t).view.rep (iblk m c 0 t)) ∗ xsP c (st0_1 t) ((st0_1 t).view.rep (iblk m c 1 t)) ∗ wsP c (st0_2 t) ((st0_2 t).view.rep (iblk m c 2 t)) ∗ resP c (st0_3 t) ((st0_3 t).view.rep (iblk m c 3 t))
          ∗ outP c (st0_4 t) ((st0_4 t).view.writes (Elt F) gO [⟨R00, outAt m c t⟩]) ∗ streamQ c (XA m c) ∗ wdAt m c (t.val + 1)
          ∗ ∃ W, owes (c : Thread nD τ) 0 W) -∗ Q ⟨⟩))
      ⊢ wp frame (wpE (defs₀ (F := F)) 𝒱₀ (c : Thread nD τ) none) Set.univ
        (bodyG (grid0.coords t) (st0_0 t) (hst0 t) (st0_1 t) (hst1 t) (st0_2 t) (hst2 t) (st0_3 t) (hst3 t) (st0_4 t) (hst4 t)) Q := by
  rw [wdAt_pos m c (Nat.succ_ne_zero t.val)]
  by_cases h1 : k0_cond1 (grid0.coords t) = 1#1
  · rw [wdAt_zero m c ((cond1_iff t).mp h1)]
    unfold streamQ
    rw [homes_zero c (XA m c)]
    iintro ⟨⟨H0, H1, H2, H3, HO, ⟨⟨Hg, Hh⟩, Hs0, Hs1, Hc0, Hc1⟩, ⟨%fo, Hw⟩, HW⟩, Hk⟩
    have run := firstRun c (XA m c) (grid0.coords t) (st0_0 t) (hst0 t) (st0_1 t) (hst1 t) (st0_2 t) (hst2 t) (st0_3 t) (hst3 t) (st0_4 t) (hst4 t)
      ((st0_0 t).view.rep (iblk m c 0 t)) ((st0_1 t).view.rep (iblk m c 1 t)) ((st0_2 t).view.rep (iblk m c 2 t)) ((st0_3 t).view.rep (iblk m c 3 t)) h1 fo gO W Q
    rw [wdEnd_eq m c t h1 fo, outOf_eq m c t] at run
    unfold streamQ at run
    rw [homes_zero c (XA m c)] at run
    iapply run
    isplitr [Hk]
    · isplitl [H0]; · iexact H0
      isplitl [H1]; · iexact H1
      isplitl [H2]; · iexact H2
      isplitl [H3]; · iexact H3
      isplitl [HO]; · iexact HO
      isplitl [Hw]; · iexact Hw
      isplitr [HW]
      · isplitl [Hg]; · iexact Hg
        isplitl [Hh]; · iexact Hh
        isplitl [Hs0]; · iexact Hs0
        isplitl [Hs1]; · iexact Hs1
        isplitl [Hc0]; · iexact Hc0
        iexact Hc1
      iexact HW
    iintro ⟨H0, H1, H2, H3, HO, Hw, HS, HW⟩
    iapply Hk
    isplitl [H0]; · iexact H0
    isplitl [H1]; · iexact H1
    isplitl [H2]; · iexact H2
    isplitl [H3]; · iexact H3
    isplitl [HO]; · iexact HO
    isplitl [HS]; · iexact HS
    isplitl [Hw]; · iexact Hw
    iexact HW
  · rw [wdAt_pos m c fun h => h1 ((cond1_iff t).mpr h)]
    iintro ⟨⟨H0, H1, H2, H3, HO, HS, Hw, HW⟩, Hk⟩
    have run := (restRun c (grid0.coords t) (st0_0 t) (hst0 t) (st0_1 t) (hst1 t) (st0_2 t) (hst2 t) (st0_3 t) (hst3 t) (st0_4 t) (hst4 t)
      ((st0_0 t).view.rep (iblk m c 0 t)) ((st0_1 t).view.rep (iblk m c 1 t)) ((st0_2 t).view.rep (iblk m c 2 t)) ((st0_3 t).view.rep (iblk m c 3 t)) h1 (wdW m c)).2 gO Q
    rw [restRun_val, outOf_eq m c t] at run
    iapply run
    isplitr [Hk HS HW]
    · isplitl [H0]; · iexact H0
      isplitl [H1]; · iexact H1
      isplitl [H2]; · iexact H2
      isplitl [H3]; · iexact H3
      isplitl [HO]; · iexact HO
      iexact Hw
    iintro ⟨H0, H1, H2, H3, HO, Hw⟩
    iapply Hk
    isplitl [H0]; · iexact H0
    isplitl [H1]; · iexact H1
    isplitl [H2]; · iexact H2
    isplitl [H3]; · iexact H3
    isplitl [HO]; · iexact HO
    isplitl [HS]; · iexact HS
    isplitl [Hw]; · iexact Hw
    iexists W; iexact HW

set_option maxHeartbeats 1000000 in
set_option backward.isDefEq.respectTransparency.types false in
theorem body_obligation (c : Dev nD) : BodyObligation (dats m 0 c) (defs₀ (F := F)) 𝒱₀ () Set.univ := fun t => by
  rw [bigSep_W0, bigSep_W0]
  dsimp only
  simp only [before_w0, before_w1, before_w2, before_w3, after_w0, after_w1, after_w2, after_w3, after_w4]
  rw [Φ_castSucc, Φ_succ]
  unfold Dat.owesAt Pipeline.owesWithin
  rw [show (dats m 0 c).owed t.castSucc = 0 from rfl, show (dats m 0 c).owed t.succ = 0 from rfl]
  unfold owns Φ
  iintro ⟨⟨HS, Hr, Hw⟩, ⟨%W, -, HW⟩, ⟨%d0, %g0, %hg0, H0⟩, ⟨%d1, %g1, %hg1, H1⟩, ⟨%d2, %g2, %hg2, H2⟩, ⟨%d3, %g3, %hg3, H3⟩, ⟨%d4, %gO, -, HO⟩⟩
  ihave H0' := (pointsTo_rep_entails (c : Thread nD τ) (st0_0 t) g0 fullShare) $$ H0
  ihave H1' := (pointsTo_rep_entails (c : Thread nD τ) (st0_1 t) g1 fullShare) $$ H1
  ihave H2' := (pointsTo_rep_entails (c : Thread nD τ) (st0_2 t) g2 fullShare) $$ H2
  ihave H3' := (pointsTo_rep_entails (c : Thread nD τ) (st0_3 t) g3 fullShare) $$ H3
  rw [hg0, hg1, hg2, hg3]
  sl_rw [defs₀_row t]
  iapply (point m c t gO W)
  isplitr [Hr]
  · isplitl [H0']; · iexact H0'
    isplitl [H1']; · iexact H1'
    isplitl [H2']; · iexact H2'
    isplitl [H3']; · iexact H3'
    isplitl [HO]; · iexact HO
    isplitl [HS]; · iexact HS
    isplitl [Hw]; · iexact Hw
    iexact HW
  iintro ⟨H0, H1, H2, H3, HO, HS, Hw, ⟨%W', HW⟩⟩
  isplitl [HS Hr Hw]
  · isplitl [HS]; · iexact HS
    isplitl [Hr]; · iexact Hr
    iexact Hw
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  isplitl [H2]
  · iexists _; isplitr; · ipureintro; exact View.read_rep _ _
    iexact H2
  isplitl [H3]
  · iexists _; isplitr; · ipureintro; exact View.read_rep _ _
    iexact H3
  iexists ((st0_4 t).view.writes (Elt F) gO [⟨R00, outAt m c t⟩]); isplitr; · ipureintro; exact View.read_writes_full _ _ _ _ _
  iexact HO

/-! ## The launch -/

theorem hmain : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The operand the body moves itself. -/
abbrev moved : Finset (Ref sig .tc) := {main_arg2}

theorem moved_eq (c : Dev nD) (V : (b : Ref sig .tc) → Buf (Elt F) ((c : Thread nD τ).loc b)) :
    (bigSep moved fun b => ((c : Thread nD τ).loc b ↦{fullShare} V b : sProp 𝕄)) = ((c : Thread nD τ).loc main_arg2 ↦{fullShare} V main_arg2 : sProp 𝕄) := by
  rw [BI.bigSep_eq_bigSepL_of_eq [main_arg2] (by decide) (by decide)]; rfl

/-- The line after the region touches neither `w_codes` nor anything scoped. -/
theorem sfx_but : ∀ ops ∈ ([hostOps1] : List (List (HloOp τ sig (Elt F)))), ∀ op ∈ ops,
    op.bufs ⊆ Pipeline.tailRefsBut sig Pipeline.Prefetch.none spec0 moved := by
  intro ops hops op hop
  simp only [List.mem_cons, List.mem_nil_iff, or_false] at hops
  rcases hops with rfl
  refine Pipeline.sub_tailRefsBut _ spec0 moved op ((List.forall_iff_forall_mem.mp hostOps1_sub) op hop) (fun k => k.elim0) fun b hb => ?_
  rw [Finset.mem_singleton] at hb
  subst hb
  simp only [hostOps1, List.mem_cons, List.mem_nil_iff, or_false] at hop
  rcases hop with rfl
  simp only [StableHlo.reshape_bufs, Finset.mem_insert, Finset.mem_singleton, not_or]
  exact ⟨StableHlo.devRef_ne_of_ne (by decide), StableHlo.devRef_ne_of_ne (by decide)⟩

theorem Φ_first (c : Dev nD) : (dats m 0 c).Φ 0 = Φ m c 0 := by dsimp only [dats]; rfl
theorem Φ_last (c : Dev nD) : (dats m 0 c).Φ (Fin.last cfg0.N) = Φ m c 24 := by dsimp only [dats]; rfl

set_option backward.isDefEq.respectTransparency.types false in
/-- Every execution of @main ends, the arrays at what the proof data compute, every other buffer at what the host line after the
    region leaves, every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) (0 : Fin 1) launch0 osem defs₀ 𝒱₀ ownSemFacts moved (by decide) m ρ main
    (hbody := fun c => (body_obligation m c).loose) (hshare := fun c => (dats m 0 c).share_full fun _ => rfl) (howed := fun _ _ => rfl)
    (V₀ := V0 m) (opss := [hostOps1]) (hsub := sfx_but) (hfresh := sfx_fresh) (hkeep := sfx_keeps) (hmain := hmain m) (hA := A_eq m)
    (hin := fun c => by
      rw [Pipeline.ΦD_eq, scopedRest0_eq, ownSems0_eq, moved_eq, w_eq, Φ_first]
      unfold Φ streamQ
      rw [wdAt_zero m c rfl]
      iintro ⟨⟨⟨%f, Hw⟩, Hb⟩, Hr, ⟨Hc0, Hc1⟩, H⟩
      ihave Hs := (buf_split c) $$ Hb
      icases Hs with ⟨Hs0, Hs1⟩
      isplitl [H Hs0 Hs1 Hc0 Hc1]
      · isplitl [H]; · iexact H
        isplitl [Hs0]; · iexact Hs0
        isplitl [Hs1]; · iexact Hs1
        isplitl [Hc0]; · iexact Hc0
        iexact Hc1
      isplitl [Hr]; · iexact Hr
      iexists f; iapply (eq_entails (wdP_eq c f).symm); iexact Hw)
    (hout := fun c => by
      rw [Pipeline.ΦD_eq, scopedRest0_eq, ownSems0_eq, moved_eq, w_eq, Φ_last]
      unfold Φ streamQ
      rw [wdAt_pos m c (by decide : (24 : ℕ) ≠ 0)]
      iintro ⟨⟨H, Hs0, Hs1, Hc0, Hc1⟩, Hr, Hw⟩
      isplitl [Hw Hs0 Hs1]
      · isplitl [Hw]
        · iexists (wdW m c); iapply (eq_entails (wdP_eq c (wdW m c))); iexact Hw
        iapply (buf_join c)
        isplitl [Hs0]; · iexact Hs0
        iexact Hs1
      isplitl [Hr]; · iexact Hr
      isplitl [Hc0 Hc1]
      · isplitl [Hc0]; · iexact Hc0
        iexact Hc1
      iexact H)
    (Q' := fun r => Pipeline.FramePost cfgs (dats m) 0 (Pipeline.afterTail₀ cfgs (dats m) 0 (V0 m) [hostOps1]) r ∧ r.2.sem = fun _ => 0) (hQ' := fun _ h => h)

/-! ## The arguments and the result -/

/-- A buffer that is no window's array and that the last host line does not write ends as the region found it. -/
theorem W_of (c : Dev nD) (b : Ref sig .tc) (h6 : b ≠ main_v6) (hw : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall, StableHlo.reshape_writes, Finset.mem_singleton]
      exact StableHlo.devRef_ne_of_ne h6)),
    Pipeline.withArrays_of_ne _ c (V0 m c) _ b hw]

/-- The result: the output array, its leading unit axis put back. -/
theorem W_main_v6 (c : Dev nD) : Pipeline.afterTail₀ cfgs (dats m) 0 (V0 m) [hostOps1] c main_v6
    = shapeCast S1x6144x1920 ((dats m 0 c).arrAt 4 cfg0.N : S6144x1920.Idx → Elt F .bf16) shapeCasts_S6144x1920_S1x6144x1920 := by
  unfold Pipeline.afterTail₀
  simp only [hostOps1, List.flatten_cons, List.flatten_nil, List.append_nil, StableHlo.after_cons, StableHlo.after_nil, StableHlo.reshape_result']
  rw [show Pipeline.withArrays (cfgs 0).spec c (V0 m c) (fun w => (dats m 0 c).arrAt w (cfgs 0).N) (Proc.devRef .tc main_v5) = (dats m 0 c).arrAt 4 cfg0.N from
    Pipeline.withArrays_arr spec0 launch0.win.arr_inj c (V0 m c) _ 4]
  rfl

/-- What the claims read of a final state. -/
theorem run_post : θ_run defs (onTc (τ := τ) (main (F := F))) ⟨m, fun _ => 0, ρ⟩ (fun r => (∀ c : Dev nD,
      r.2.mem ((c.tc : Thread nD τ).loc main_v6) = shapeCast S1x6144x1920 ((dats m 0 c).arrAt 4 cfg0.N : S6144x1920.Idx → Elt F .bf16) shapeCasts_S6144x1920_S1x6144x1920
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).2 main_v6 (Pipeline.mem_restRefs_of main_v6 (by decide) (by decide))).trans (W_main_v6 m c),
      ((h.1 c).2 main_arg0 (Pipeline.mem_restRefs_of main_arg0 (by decide) (by decide))).trans ((W_of m c main_arg0 (by decide) (by decide)).trans (V_main_arg0 m c)),
      ((h.1 c).2 main_arg1 (Pipeline.mem_restRefs_of main_arg1 (by decide) (by decide))).trans ((W_of m c main_arg1 (by decide) (by decide)).trans (V_main_arg1 m c)),
      ((h.1 c).2 main_arg2 (Pipeline.mem_restRefs_of main_arg2 (by decide) (by decide))).trans ((W_of m c main_arg2 (by decide) (by decide)).trans (V_main_arg2 m c)),
      ((h.1 c).2 main_arg3 (Pipeline.mem_restRefs_of main_arg3 (by decide) (by decide))).trans ((W_of m c main_arg3 (by decide) (by decide)).trans (V_main_arg3 m c)),
      ((h.1 c).2 main_arg4 (Pipeline.mem_restRefs_of main_arg4 (by decide) (by decide))).trans ((W_of m c main_arg4 (by decide) (by decide)).trans (V_main_arg4 m c))⟩, h.2⟩)
    (run_main m ρ)

/-- The frame: every argument ends as it began, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_post m ρ)

end Cert.KernelIdeal.Hand

end
-- ==== Proof.Kernel.Frame.lean ====
/-
  The kernel's frame. No operation was rewritten on the way to the idealized kernel, so the two printed programs are the
  same term under two names, and the run proved for the one, at every reading of the floats, is a run of the other.
-/
module

public import proofs.«01_k».proof.Defs
public import proofs.«01_k».proof.Proof.Gen.Kernel.Frame
public import proofs.«01_k».proof.Proof.KernelIdeal.Run

@[expose] public section

set_option maxRecDepth 16384

noncomputable section

namespace Cert.Kernel.Hand

open Idealize.ShloMosaic Idealize.ShloMosaic.TcCoe Idealize.SL.Sem

variable {F : FTy → Type} [FloatOps F]

/-- The two bodies are one program, -/
theorem defs₀_eq : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl
/-- so are the two pipelines over them, -/
theorem defs_eq : Cert.Kernel.defs (F := F) = Cert.KernelIdeal.defs (F := F) := congrArg (Pipeline.defs Cert.Kernel.pcfgs) defs₀_eq
/-- and the two host programs. -/
theorem main_eq : Cert.Kernel.main (F := F) = Cert.KernelIdeal.main (F := F) := rfl

/-- The kernel terminates without fault, leaves every argument as it was and every semaphore at zero. -/
theorem frame : Cert.quiescent_Kernel := by
  intro m g _
  rw [defs_eq, main_eq]
  exact Cert.KernelIdeal.Hand.frame (F := Bits) m g

end Cert.Kernel.Hand

end
-- ==== Proof.Want.lean ====
/-
  The mathematics of the problem, at one entry: activations and weight dequantised by their scales, multiplied, the residual
  added.
-/
module

public import Idealize.ShloMosaic.PureOps.Ideal

@[expose] public section

noncomputable section

namespace Cert.Want

/-- The group of 128 an index of the contracted axis lies in, -/
abbrev kGroup (k : Fin 10240) : Fin 80 := ⟨k.val / 128, by have := k.isLt; omega⟩
/-- its place in the group, -/
abbrev kIn (k : Fin 10240) : Fin 128 := ⟨k.val % 128, Nat.mod_lt _ (by decide)⟩
/-- and the group an output column lies in. -/
abbrev nGroup (n : Fin 1920) : Fin 15 := ⟨n.val / 128, by have := n.isLt; omega⟩

/-- Entry (r, n) of the result: the sum over `k` of the dequantised activation times the dequantised weight, plus the residual. -/
def entry (x : Fin 6144 → Fin 10240 → EReal) (xs : Fin 80 → Fin 6144 → EReal) (w : Fin 10240 → Fin 1920 → EReal) (ws : Fin 80 → Fin 15 → EReal)
    (res : Fin 6144 → Fin 1920 → EReal) (r : Fin 6144) (n : Fin 1920) : EReal :=
  (∑ k : Fin 10240, (x r k * xs (kGroup k) r) * (w k n * ws (kGroup k) (nGroup n))) + res r n

end Cert.Want

end
-- ==== Proof.KernelIdeal.Block.lean ====
/-
  What one block computes over the extended reals: entry (r, n) is the sum over k of (code · scale) · (code · scale), plus
  the residual.
-/
module

public import proofs.«01_k».proof.Proof.Want
public import proofs.«01_k».proof.Proof.KernelIdeal.Body
public import proofs.«01_k».proof.Proof.KernelIdeal.Weight
public import Idealize.ShloMosaic.Lib.Pipeline.ValueKit
public import Idealize.ShloMosaic.Lib.Pipeline.Value
public import Idealize.ShloMosaic.Lib.Pointwise

@[expose] public section

set_option maxRecDepth 16384

noncomputable section

namespace Cert.KernelIdeal.Hand

open Cert.KernelIdeal Cert.KernelIdeal.Gen
open Cert.Want
open Idealize.ShloMosaic Idealize.ShloMosaic.TcCoe Idealize.SL.Sem

/-- One column group of the activations, dequantised. -/
theorem piece_at (xs : FVec Ideal S80x256 .f32) (x : FVec Ideal S256x128 .fp8e4m3) (g : Fin 80) (r : Fin 256) (l : Fin 128) :
    piece (F := Ideal) xs x g (ix2 r l) = x (ix2 r l) * xs (ix2 g r) := by
  pointwise [piece, k0_pay8]

/-- The joined activations at column `k`: its group's piece. -/
theorem joined_at (xs : FVec Ideal S80x256 .f32) (x : Fin 80 → FVec Ideal S256x128 .fp8e4m3) (r : Fin 256) (k : Fin 10240) :
    concatenate S256x10240 1 (pieces (F := Ideal) xs x) (pieces_cat (F := Ideal) xs x) (ix2 r k) = x (kGroup k) (ix2 r (kIn k)) * xs (ix2 (kGroup k) r) := by
  rw [← piece_at]
  exact concatenate_ofFn_apply (t := S256x10240) (1 : Fin 2) (s₁ := S256x128) (fun g => piece (F := Ideal) xs (x g) g) (pieces_cat (F := Ideal) xs x) rfl 128 rfl (ix2 r k)
    (kGroup k) rfl (ix2 r (kIn k)) rfl fun b hb => by
      match b with
      | ⟨0, _⟩ => rfl
      | ⟨1, _⟩ => exact absurd rfl hb

/-- A product with the residual added, at an entry. -/
theorem mm_at (a : FVec Ideal S256x10240 .bf16) (w : FVec Ideal S10240x1920 .bf16) (res : FVec Ideal S256x1920 .bf16) (r : Fin 256) (n : Fin 1920) :
    k0_pay1 (F := Ideal) (matmul dot_S256x10240_S10240x1920_S256x1920_1_0_0_1_n_n none a w (constant S256x1920 .f32 0x00000000#32)) res (ix2 r n)
      = (∑ k : Fin 10240, a (ix2 r k) * w (ix2 k n)) + res (ix2 r n) := by
  pointwise [k0_pay1]

/-- The block at an entry. -/
theorem outVal_at (xs : FVec Ideal S80x256 .f32) (x : Fin 80 → FVec Ideal S256x128 .fp8e4m3) (wd : FVec Ideal S10240x1920 .bf16)
    (res : FVec Ideal S256x1920 .bf16) (r : Fin 256) (n : Fin 1920) :
    outVal (F := Ideal) xs x wd res (ix2 r n)
      = (∑ k : Fin 10240, (x (kGroup k) (ix2 r (kIn k)) * xs (ix2 (kGroup k) r)) * wd (ix2 k n)) + res (ix2 r n) := by
  unfold outVal
  rw [mm_at]
  refine congrArg (· + _) (Finset.sum_congr rfl fun k _ => ?_)
  rw [joined_at]

/-- One group of rows of the weight, dequantised. -/
theorem pay2_at (q : FVec Ideal S1x128x1920 .fp8e4m3) (s : FVec Ideal S1x1920 .f32) (l : Fin 128) (n : Fin 1920) :
    k0_pay2 (F := Ideal) q s (ix2 l n) = q (ix3 0 l n) * s (ix2 0 n) := by
  pointwise [k0_pay2]

/-- The dequantised weight at an entry. -/
theorem wdOf_read (X : FVec Ideal S10240x1920 .fp8e4m3) (s : FVec Ideal S80x1920 .f32) (k : Fin 10240) (n : Fin 1920) :
    wdOf (F := Ideal) X s (ix2 k n) = X (ix2 k n) * s (ix2 (kGroup k) n) := by
  refine (pay2_at (qRows (F := Ideal) X (kGroup k)) (sRow (F := Ideal) s (kGroup k)) (kIn k) n).trans ?_
  refine congrArg₂ (· * ·) (congrArg X (congrArg (fun a => ix2 a n) (Fin.ext ?_))) rfl
  show 128 * (k.val / 128) + k.val % 128 = k.val
  omega

end Cert.KernelIdeal.Hand

end
-- ==== Proof.KernelIdeal.Value.lean ====
/-
  What the kernel's result array holds over the extended reals: `Want.entry` of the arguments, at every index.
-/
module

public import proofs.«01_k».proof.Proof.KernelIdeal.Block
public import proofs.«01_k».proof.Proof.KernelIdeal.Run
public import Idealize.ShloMosaic.Lib.Claim

@[expose] public section

set_option maxRecDepth 16384

noncomputable section

namespace Cert.KernelIdeal.Hand

open Cert.KernelIdeal Cert.KernelIdeal.Gen
open Cert.Want
open Idealize.ShloMosaic Idealize.ShloMosaic.TcCoe Idealize.SL.Sem
open Idealize.ShloMosaic.Pipeline (Dat)

variable (m : (ℓ : Loc nD τ sig) → Buf (Elt Ideal) ℓ)

/-! ## The arguments, and the arrays the host lines make of them -/

/-- The five arguments, at their literal shapes. -/
def aX (c : Dev nD) : FVec Ideal S1x6144x10240 .fp8e4m3 := m ((c : Thread nD τ).loc main_arg0)
def aXs (c : Dev nD) : FVec Ideal S80x1x6144 .f32 := m ((c : Thread nD τ).loc main_arg1)
def aW (c : Dev nD) : FVec Ideal S10240x1920 .fp8e4m3 := m ((c : Thread nD τ).loc main_arg2)
def aWs (c : Dev nD) : FVec Ideal S80x15 .f32 := m ((c : Thread nD τ).loc main_arg3)
def aRes (c : Dev nD) : FVec Ideal S1x6144x1920 .bf16 := m ((c : Thread nD τ).loc main_arg4)

/-- Entry (r, n) of the result, from the arguments. -/
def val (c : Dev nD) (r : Fin 6144) (n : Fin 1920) : EReal :=
  entry (fun r k => aX m c (ix3 0 r k)) (fun g r => aXs m c (ix3 g 0 r)) (fun k n => aW m c (ix2 k n)) (fun g h => aWs m c (ix2 g h))
    (fun r n => aRes m c (ix3 0 r n)) r n

/-- What the host lines before the region leave: the activations, -/
theorem V2 (c : Dev nD) : V m c main_v2 = shapeCast S6144x10240 (aX m c) shapeCasts_S1x6144x10240_S6144x10240 := by
  simp only [V, V0, hostOps0, List.flatten_cons, List.flatten_nil, List.append_nil, StableHlo.after_cons, StableHlo.after_nil]
  after_results_simp
  after_results_loop
  rfl
/-- their scales -/
theorem V3 (c : Dev nD) : V m c main_v3 = shapeCast S80x6144 (aXs m c) shapeCasts_S80x1x6144_S80x6144 := by
  simp only [V, V0, hostOps0, List.flatten_cons, List.flatten_nil, List.append_nil, StableHlo.after_cons, StableHlo.after_nil]
  after_results_simp
  after_results_loop
  rfl
/-- and the residual at two axes, -/
theorem V4 (c : Dev nD) : V m c main_v4 = shapeCast S6144x1920 (aRes m c) shapeCasts_S1x6144x1920_S6144x1920 := by
  simp only [V, V0, hostOps0, List.flatten_cons, List.flatten_nil, List.append_nil, StableHlo.after_cons, StableHlo.after_nil]
  after_results_simp
  after_results_loop
  rfl
/-- the weight's codes untouched, -/
theorem VW (c : Dev nD) : XA m c = aW m c := V_main_arg2 m c
/-- the weight's scales repeated 128 times along a row. -/
theorem V1 (c : Dev nD) : wsA m c = shapeCast S80x1920 (broadcastInDim S80x15x128 ![0, 1] bcast_S80x15_S80x15x128_0_1 (aWs m c)) shapeCasts_S80x15x128_S80x1920 := by
  simp only [wsA, V, V0, hostOps0, List.flatten_cons, List.flatten_nil, List.append_nil, StableHlo.after_cons, StableHlo.after_nil]
  after_results_simp
  after_results_loop
  rfl

/-- A leading unit axis dropped, at an entry: the activations; -/
theorem flatX (x : FVec Ideal S1x6144x10240 .fp8e4m3) (r : Fin 6144) (k : Fin 10240) :
    shapeCast S6144x10240 x shapeCasts_S1x6144x10240_S6144x10240 (ix2 r k) = x (ix3 0 r k) := by
  pointwise
/-- a middle one: their scales; -/
theorem flatXs (x : FVec Ideal S80x1x6144 .f32) (g : Fin 80) (r : Fin 6144) :
    shapeCast S80x6144 x shapeCasts_S80x1x6144_S80x6144 (ix2 g r) = x (ix3 g 0 r) := by
  pointwise
/-- a leading one: the residual; -/
theorem flatRes (x : FVec Ideal S1x6144x1920 .bf16) (r : Fin 6144) (n : Fin 1920) :
    shapeCast S6144x1920 x shapeCasts_S1x6144x1920_S6144x1920 (ix2 r n) = x (ix3 0 r n) := by
  pointwise
/-- put back: the result. -/
theorem unflatRes (x : FVec Ideal S6144x1920 .bf16) (r : Fin 6144) (n : Fin 1920) :
    shapeCast S1x6144x1920 x shapeCasts_S6144x1920_S1x6144x1920 (ix3 0 r n) = x (ix2 r n) := by
  pointwise
/-- The repeated scales at an entry: the scale of the column's group. -/
theorem repeated (x : FVec Ideal S80x15 .f32) (g : Fin 80) (n : Fin 1920) :
    shapeCast S80x1920 (broadcastInDim S80x15x128 ![0, 1] bcast_S80x15_S80x15x128_0_1 x) shapeCasts_S80x15x128_S80x1920 (ix2 g n) = x (ix2 g (nGroup n)) := by
  pointwise

/-! ## The array -/

theorem idx : ∀ t : Fin cfg0.N, win0_0.index t = ![t.val, 0] ∧ win0_1.index t = ![0, t.val] ∧ win0_3.index t = ![t.val, 0] ∧ win0_4.index t = ![t.val, 0] :=
  (by decide +kernel : ∀ t : Fin grid0.N, _)

/-- Row `256 t + r` of the arrays. -/
abbrev row (t : Fin cfg0.N) (r : Fin 256) : Fin 6144 := ⟨256 * t.val + r.val, by have h : t.val < 24 := t.isLt; have := r.isLt; omega⟩

/-- The blocks of point `t` at an entry: the activations, -/
theorem iblk0_at (c : Dev nD) (t : Fin cfg0.N) (r : Fin 256) (k : Fin 10240) :
    (iblk m c 0 t : FVec Ideal S256x10240 .fp8e4m3) (ix2 r k) = aX m c (ix3 0 (row t r) k) := by
  refine Eq.trans ?_ ((congrFun (V2 m c) (ix2 (row t r) k)).trans (flatX _ (row t r) k))
  blk_ext [iblk, idx t]
/-- their scales, -/
theorem iblk1_at (c : Dev nD) (t : Fin cfg0.N) (g : Fin 80) (r : Fin 256) :
    (iblk m c 1 t : FVec Ideal S80x256 .f32) (ix2 g r) = aXs m c (ix3 g 0 (row t r)) := by
  refine Eq.trans ?_ ((congrFun (V3 m c) (ix2 g (row t r))).trans (flatXs _ g (row t r)))
  blk_ext [iblk, idx t]
/-- the residual. -/
theorem iblk3_at (c : Dev nD) (t : Fin cfg0.N) (r : Fin 256) (n : Fin 1920) :
    (iblk m c 3 t : FVec Ideal S256x1920 .bf16) (ix2 r n) = aRes m c (ix3 0 (row t r) n) := by
  refine Eq.trans ?_ ((congrFun (V4 m c) (ix2 (row t r) n)).trans (flatRes _ (row t r) n))
  blk_ext [iblk, idx t]

/-- A column group of a block at an entry. -/
theorem colOf_at (x : FVec Ideal S256x10240 .fp8e4m3) (r : Fin 256) (k : Fin 10240) :
    colOf (F := Ideal) x (kGroup k) (ix2 r (kIn k)) = x (ix2 r k) := by
  refine congrArg x (funext fun a => Fin.ext ?_)
  match a with
  | ⟨0, _⟩ => show 0 + 1 * r.val = r.val; omega
  | ⟨1, _⟩ => show 128 * (k.val / 128) + 1 * (k.val % 128) = k.val; omega

/-- What point `t` stores at an entry. -/
theorem outAt_at (c : Dev nD) (t : Fin cfg0.N) (r : Fin 256) (n : Fin 1920) : outAt m c t (ix2 r n) = val m c (row t r) n := by
  refine (outVal_at (iblk m c 1 t) (colOf (F := Ideal) (iblk m c 0 t)) (wdW m c) (iblk m c 3 t) r n).trans ?_
  refine congrArg₂ (· + ·) (Finset.sum_congr rfl fun k _ => congrArg₂ (· * ·) (congrArg₂ (· * ·) ?_ ?_) ?_) (iblk3_at m c t r n)
  · exact (colOf_at _ r k).trans (iblk0_at m c t r k)
  · exact iblk1_at m c t (kGroup k) r
  · refine (wdOf_read (XA m c) (wsA m c) k n).trans (congrArg₂ (· * ·) (congrFun (VW m c) _) ?_)
    rw [V1]
    exact repeated _ _ _

/-- The output array after the run. -/
theorem final (c : Dev nD) : (dats m 0 c).arrAt 4 cfg0.N = (fun y => val m c (y 0) (y 1) : FVec Ideal S6144x1920 .bf16) := by
  refine (dats m 0 c).arrAt_eq_of_covers 4 _ (by decide +kernel) fun t _ y => ?_
  blk_simp
  rw [after_w4]
  refine (congrArg (outAt m c t) (eq_ix2 (y : S256x1920.Idx))).trans ((outAt_at m c t (y 0) (y 1)).trans ?_)
  refine congrArg₂ (val m c) (Fin.ext ?_) (Fin.ext ?_)
  · blk_simp [idx t]
    exact congrArg (· + _) (Nat.mul_comm _ _)
  · blk_simp [idx t]

/-- The result, at every index. -/
theorem result (c : Dev nD) :
    shapeCast S1x6144x1920 ((dats m 0 c).arrAt 4 cfg0.N : S6144x1920.Idx → Elt Ideal .bf16) shapeCasts_S6144x1920_S1x6144x1920
      = (fun y => val m c (y 1) (y 2) : FVec Ideal S1x6144x1920 .bf16) := by
  rw [final]
  funext y
  idx_vars y
  have h := y0.isLt
  obtain rfl : y0 = 0 := Fin.ext (by omega)
  exact unflatRes _ _ _

end Cert.KernelIdeal.Hand

end
-- ==== Proof.ReferenceIdeal.Value.lean ====
/-
  What the reference's result array holds over the extended reals: `Want.entry` of the arguments, at every index.
-/
module

public import proofs.«01_k».proof.Proof.Want
public import proofs.«01_k».proof.Proof.Gen.ReferenceIdeal.Frame
public import Idealize.ShloMosaic.Lib.Pipeline.ValueKit
public import Idealize.ShloMosaic.Lib.Pointwise

@[expose] public section

set_option maxRecDepth 16384

noncomputable section

namespace Cert.ReferenceIdeal.Hand

open Cert.ReferenceIdeal Cert.ReferenceIdeal.Gen
open Cert.Want
open Idealize.ShloMosaic Idealize.ShloMosaic.TcCoe Idealize.SL.Sem
open Idealize.ShloMosaic.Pipeline (Dat)

/-- The reference's formula at an entry. -/
theorem formula_at (xs : FVec Ideal S80x1x6144 .f32) (x : FVec Ideal S1x6144x10240 .fp8e4m3) (ws : FVec Ideal S80x15 .f32)
    (w : FVec Ideal S10240x1920 .fp8e4m3) (res : FVec Ideal S1x6144x1920 .bf16) (r : Fin 6144) (n : Fin 1920) :
    k0_pay1 (F := Ideal) xs x ws w res (ix3 0 r n)
      = entry (fun r k => x (ix3 0 r k)) (fun g r => xs (ix3 g 0 r)) (fun k n => w (ix2 k n)) (fun g h => ws (ix2 g h))
          (fun r n => res (ix3 0 r n)) r n := by
  unfold entry
  pointwise [k0_pay1]

section Array

variable (m : (ℓ : Loc nD τ sig) → Buf (Elt Ideal) ℓ)

/-- The five arguments, at their literal shapes. -/
def aX (c : Dev nD) : FVec Ideal S1x6144x10240 .fp8e4m3 := m ((c : Thread nD τ).loc main_arg0)
def aXs (c : Dev nD) : FVec Ideal S80x1x6144 .f32 := m ((c : Thread nD τ).loc main_arg1)
def aW (c : Dev nD) : FVec Ideal S10240x1920 .fp8e4m3 := m ((c : Thread nD τ).loc main_arg2)
def aWs (c : Dev nD) : FVec Ideal S80x15 .f32 := m ((c : Thread nD τ).loc main_arg3)
def aRes (c : Dev nD) : FVec Ideal S1x6144x1920 .bf16 := m ((c : Thread nD τ).loc main_arg4)

/-- Entry (r, n) of the result, from the arguments. -/
def val (c : Dev nD) (r : Fin 6144) (n : Fin 1920) : EReal :=
  entry (fun r k => aX m c (ix3 0 r k)) (fun g r => aXs m c (ix3 g 0 r)) (fun k n => aW m c (ix2 k n)) (fun g h => aWs m c (ix2 g h))
    (fun r n => aRes m c (ix3 0 r n)) r n

/-- Every window is its whole array. -/
theorem idx : ∀ t : Fin cfg0.N, win0_0.index t = ![0, 0, 0] ∧ win0_1.index t = ![0, 0, 0] ∧ win0_2.index t = ![0, 0] ∧ win0_3.index t = ![0, 0]
    ∧ win0_4.index t = ![0, 0, 0] ∧ win0_5.index t = ![0, 0, 0] :=
  (by decide +kernel : ∀ t : Fin grid0.N, _)

/-- The result array after the run is the formula of the arguments, -/
theorem final (c : Dev nD) : (dats m 0 c).arrAt 5 cfg0.N = k0_pay1 (F := Ideal) (aXs m c) (aX m c) (aWs m c) (aW m c) (aRes m c) := by
  refine (dats m 0 c).arrAt_eq_of_after_last 5 t0_0 (by decide +kernel) _ fun j => ?_
  blk_simp
  rw [after0_5]
  frame_out
  blk_point [iblk, V, aX, aXs, aW, aWs, aRes, idx t0_0]

/-- that is, at every index, the problem's mathematics. -/
theorem result (c : Dev nD) : (dats m 0 c).arrAt 5 cfg0.N = (fun y => val m c (y 1) (y 2) : FVec Ideal S1x6144x1920 .bf16) := by
  rw [final]
  funext y
  idx_vars y
  have h := y0.isLt
  obtain rfl : y0 = 0 := Fin.ext (by omega)
  exact formula_at _ _ _ _ _ _ _

end Array

end Cert.ReferenceIdeal.Hand

end
-- ==== Proof.lean ====
/-
  The proof of `Cert.Claim`: the three programs run to the end, leave their arguments as they were and every semaphore at
  zero; the idealized kernel's program is the kernel's; and over the extended reals the idealized kernel and the reference
  end with the same result. Both results are `Want.entry` of the arguments at every index
  (`KernelIdeal.Hand.result`, `ReferenceIdeal.Hand.result`).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Frame
public import proofs.«01_k».proof.Proof.KernelIdeal.Value
public import proofs.«01_k».proof.Proof.ReferenceIdeal.Value
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- From the same arguments both results have the same entries. -/
theorem val_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : Cert.ReferenceIdeal.Hand.aX m' c = Cert.KernelIdeal.Hand.aX m c) (h1 : Cert.ReferenceIdeal.Hand.aXs m' c = Cert.KernelIdeal.Hand.aXs m c)
    (h2 : Cert.ReferenceIdeal.Hand.aW m' c = Cert.KernelIdeal.Hand.aW m c) (h3 : Cert.ReferenceIdeal.Hand.aWs m' c = Cert.KernelIdeal.Hand.aWs m c)
    (h4 : Cert.ReferenceIdeal.Hand.aRes m' c = Cert.KernelIdeal.Hand.aRes m c) (r : Fin 6144) (n : Fin 1920) :
    Cert.ReferenceIdeal.Hand.val m' c r n = Cert.KernelIdeal.Hand.val m c r n := by
  unfold Cert.ReferenceIdeal.Hand.val Cert.KernelIdeal.Hand.val
  rw [h0, h1, h2, h3, h4]

/-- Idealized kernel and reference, from the same arguments, end with the same result. -/
theorem algebraic : Cert.algebraic_KernelIdeal_ReferenceIdeal := by
  intro m g m' g' _ hagree
  refine ⟨fun c => _, (θ_run _ _ _).mono (fun _ h => h.1) (Cert.KernelIdeal.Hand.run_post (F := Ideal) m g), ?_⟩
  run_from Cert.ReferenceIdeal.Gen.run_main (F := Ideal) m' g'
  rename_i c
  obtain ⟨h0, h1, h2, h3, h4⟩ := hagree c
  refine Eq.trans (Cert.ReferenceIdeal.Hand.result m' c) ?_
  refine Eq.trans ?_ (Cert.KernelIdeal.Hand.result m c).symm
  funext y
  exact val_eq m m' c h0 h1 h2 h3 h4 (y 1) (y 2)

theorem claim : Cert.Claim := ⟨Cert.Kernel.Gen.facts, Cert.KernelIdeal.Gen.facts, Cert.ReferenceIdeal.Gen.facts,
  Cert.Kernel.Hand.frame, fun m g _ => Cert.KernelIdeal.Hand.frame m g, fun m g _ => Cert.ReferenceIdeal.Gen.frame m g,
  trivial, algebraic⟩

end Cert.Proof

end
